-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![2048, 128]⟩ ⟨2, ![2048, 256]⟩ (Layout.meshBlock [2, 2, 2] ![[], [0]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨2, ![128, 2048]⟩ ⟨2, ![256, 2048]⟩ (Layout.meshBlock [2, 2, 2] ![[0], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨2, ![128, 2048]⟩ ⟨2, ![256, 2048]⟩ (Layout.meshBlock [2, 2, 2] ![[0], []] c) (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)
      ∧ m ((c.tc : Thread Cert.KernelIdeal.nD Cert.KernelIdeal.τ).loc Cert.KernelIdeal.main_arg5) = m' (((0 : Dev Cert.ReferenceIdeal.nD).tc : Thread Cert.ReferenceIdeal.nD Cert.ReferenceIdeal.τ).loc Cert.ReferenceIdeal.main_arg5)
      ∧ m ((c.tc : Thread Cert.KernelIdeal.nD Cert.KernelIdeal.τ).loc Cert.KernelIdeal.main_arg6) = m' (((0 : Dev Cert.ReferenceIdeal.nD).tc : Thread Cert.ReferenceIdeal.nD Cert.ReferenceIdeal.τ).loc Cert.ReferenceIdeal.main_arg6)
      ∧ m ((c.tc : Thread Cert.KernelIdeal.nD Cert.KernelIdeal.τ).loc Cert.KernelIdeal.main_arg7) = m' (((0 : Dev Cert.ReferenceIdeal.nD).tc : Thread Cert.ReferenceIdeal.nD Cert.ReferenceIdeal.τ).loc Cert.ReferenceIdeal.main_arg7)) →
    ∃ (v0 : Buf (Elt Ideal) (((0 : Dev Cert.ReferenceIdeal.nD).tc : Thread Cert.ReferenceIdeal.nD Cert.ReferenceIdeal.τ).loc Cert.ReferenceIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v29) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6)
          ∧ r.2.mem (((0 : Dev Cert.ReferenceIdeal.nD).tc : Thread Cert.ReferenceIdeal.nD Cert.ReferenceIdeal.τ).loc Cert.ReferenceIdeal.main_arg7) = m' (((0 : Dev Cert.ReferenceIdeal.nD).tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x512x2048 : Shape := ⟨3, ![2, 512, 2048]⟩
abbrev S2048x128 : Shape := ⟨2, ![2048, 128]⟩
abbrev S128x2048 : Shape := ⟨2, ![128, 2048]⟩
abbrev S2048x2048 : Shape := ⟨2, ![2048, 2048]⟩
abbrev S2048x512 : Shape := ⟨2, ![2048, 512]⟩
abbrev S2048x32 : Shape := ⟨2, ![2048, 32]⟩
abbrev S1024x2048 : Shape := ⟨2, ![1024, 2048]⟩
abbrev S1024x32 : Shape := ⟨2, ![1024, 32]⟩
abbrev S1024x128 : Shape := ⟨2, ![1024, 128]⟩
abbrev S3 : Shape := ⟨1, ![3]⟩
abbrev S_ : Shape := ⟨0, ![]⟩
abbrev S1x512x2048 : Shape := ⟨3, ![1, 512, 2048]⟩
abbrev S512x2048 : Shape := ⟨2, ![512, 2048]⟩
abbrev S512x128 : Shape := ⟨2, ![512, 128]⟩
abbrev S1 : Shape := ⟨1, ![1]⟩
abbrev S128x512 : Shape := ⟨2, ![128, 512]⟩
abbrev S1024x512 : Shape := ⟨2, ![1024, 512]⟩
abbrev S512x32 : Shape := ⟨2, ![512, 32]⟩
abbrev S2048x16x32 : Shape := ⟨3, ![2048, 16, 32]⟩
abbrev S16x2048x32 : Shape := ⟨3, ![16, 2048, 32]⟩
abbrev S1x2048x32 : Shape := ⟨3, ![1, 2048, 32]⟩
abbrev S512x512 : Shape := ⟨2, ![512, 512]⟩
abbrev S512 : Shape := ⟨1, ![512]⟩
abbrev S512x1 : Shape := ⟨2, ![512, 1]⟩

abbrev nBuf : Space → Nat
  | .hbm => 16
  | .vmem => 32
  | .smem => 0
  | _ => 0

abbrev bufTy : (tb : Table) → Fin (tcTables nBuf tb) → BufTy
  | .hbm, ⟨0, _⟩ => ⟨S2x512x2048, .f32⟩
  | .hbm, ⟨1, _⟩ => ⟨S2048x128, .f32⟩
  | .hbm, ⟨2, _⟩ => ⟨S128x2048, .f32⟩
  | .hbm, ⟨3, _⟩ => ⟨S128x2048, .f32⟩
  | .hbm, ⟨4, _⟩ => ⟨S2048x2048, .f32⟩
  | .hbm, ⟨5, _⟩ => ⟨S2048x512, .f32⟩
  | .hbm, ⟨6, _⟩ => ⟨S2048x32, .f32⟩
  | .hbm, ⟨7, _⟩ => ⟨S2048x2048, .f32⟩
  | .hbm, ⟨8, _⟩ => ⟨S1024x2048, .f32⟩
  | .hbm, ⟨9, _⟩ => ⟨S1024x2048, .f32⟩
  | .hbm, ⟨10, _⟩ => ⟨S1024x32, .f32⟩
  | .hbm, ⟨11, _⟩ => ⟨S2048x16x32, .f32⟩
  | .hbm, ⟨12, _⟩ => ⟨S16x2048x32, .f32⟩
  | .hbm, ⟨13, _⟩ => ⟨S1024x2048, .f32⟩
  | .hbm, ⟨14, _⟩ => ⟨S1024x2048, .f32⟩
  | .hbm, ⟨15, _⟩ => ⟨S2x512x2048, .f32⟩
  | .local _ .vmem, ⟨0, _⟩ => ⟨S2x512x2048, .f32⟩
  | .local _ .vmem, ⟨1, _⟩ => ⟨S2048x128, .f32⟩
  | .local _ .vmem, ⟨2, _⟩ => ⟨S128x2048, .f32⟩
  | .local _ .vmem, ⟨3, _⟩ => ⟨S128x2048, .f32⟩
  | .local _ .vmem, ⟨4, _⟩ => ⟨S2048x32, .f32⟩
  | .local _ .vmem, ⟨5, _⟩ => ⟨S1024x2048, .f32⟩
  | .local _ .vmem, ⟨6, _⟩ => ⟨S1024x2048, .f32⟩
  | .local _ .vmem, ⟨7, _⟩ => ⟨S1024x32, .f32⟩
  | .local _ .vmem, ⟨8, _⟩ => ⟨S1024x128, .f32⟩
  | .local _ .vmem, ⟨9, _⟩ => ⟨S1024x128, .f32⟩
  | .local _ .vmem, ⟨10, _⟩ => ⟨S128x2048, .f32⟩
  | .local _ .vmem, ⟨11, _⟩ => ⟨S128x2048, .f32⟩
  | .local _ .vmem, ⟨12, _⟩ => ⟨S1x512x2048, .f32⟩
  | .local _ .vmem, ⟨13, _⟩ => ⟨S1x512x2048, .f32⟩
  | .local _ .vmem, ⟨14, _⟩ => ⟨S2048x128, .f32⟩
  | .local _ .vmem, ⟨15, _⟩ => ⟨S2048x128, .f32⟩
  | .local _ .vmem, ⟨16, _⟩ => ⟨S1x2048x32, .f32⟩
  | .local _ .vmem, ⟨17, _⟩ => ⟨S1x2048x32, .f32⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S512x128, .f32⟩
  | .local _ .vmem, ⟨22, _⟩ => ⟨S512x32, .f32⟩
  | .local _ .vmem, ⟨23, _⟩ => ⟨S512x32, .f32⟩
  | .local _ .vmem, ⟨24, _⟩ => ⟨S512x128, .f32⟩
  | .local _ .vmem, ⟨25, _⟩ => ⟨S512x128, .f32⟩
  | .local _ .vmem, ⟨26, _⟩ => ⟨S512x2048, .f32⟩
  | .local _ .vmem, ⟨27, _⟩ => ⟨S512x2048, .f32⟩
  | .local _ .vmem, ⟨28, _⟩ => ⟨S2048x512, .f32⟩
  | .local _ .vmem, ⟨29, _⟩ => ⟨S2048x512, .f32⟩
  | .local _ .vmem, ⟨30, _⟩ => ⟨S512x512, .f32⟩
  | .local _ .vmem, ⟨31, _⟩ => ⟨S512x512, .f32⟩
  | _, _ => ⟨S2x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc1_stg6_0 : Ref sig .tc := ⟨.vmem, 24, rfl⟩
abbrev cc1_stg6_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg2_1 : Ref sig .tc := ⟨.vmem, 31, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem6_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem2_1 : DmaSem sig := 33
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_5 : BitVec 32 := 4#32
  let v11 : BitVec 32 := Scalar.muli v9 c4_i32_5
  let v12 : BitVec 32 := Scalar.addi c0_i32 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_6 : BitVec 32 := 2#32
  let v13 : BitVec 32 := Scalar.muli v5 c2_i32_6
  let v14 : BitVec 32 := Scalar.addi v12 v13
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_7 : BitVec 32 := 1#32
  let v15 : BitVec 32 := Scalar.muli v8 c1_i32_7
  let v16 : BitVec 32 := Scalar.addi v14 v15
  v16.toNat
def k0_dev2 (d0 : Dev nD) : Nat :=
  let c0_i32_24 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_23 : BitVec 32 := 4#32
  let v33 : BitVec 32 := Scalar.muli v9 c4_i32_23
  let v34 : BitVec 32 := Scalar.addi c0_i32_24 v33
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_25 : BitVec 32 := 2#32
  let v35 : BitVec 32 := Scalar.muli v5 c2_i32_25
  let v36 : BitVec 32 := Scalar.addi v34 v35
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_26 : BitVec 32 := 1#32
  let v37 : BitVec 32 := Scalar.muli v8 c1_i32_26
  let v38 : BitVec 32 := Scalar.addi v36 v37
  v38.toNat
def k0_dev3 (d0 : Dev nD) : Nat :=
  let c0_i32_30 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_29 : BitVec 32 := 4#32
  let v43 : BitVec 32 := Scalar.muli v9 c4_i32_29
  let v44 : BitVec 32 := Scalar.addi c0_i32_30 v43
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_31 : BitVec 32 := 2#32
  let v45 : BitVec 32 := Scalar.muli v5 c2_i32_31
  let v46 : BitVec 32 := Scalar.addi v44 v45
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_32 : BitVec 32 := 1#32
  let v47 : BitVec 32 := Scalar.muli v8 c1_i32_32
  let v48 : BitVec 32 := Scalar.addi v46 v47
  v48.toNat
def k0_dev4 (d0 : Dev nD) : Nat :=
  let c0_i32_36 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_35 : BitVec 32 := 4#32
  let v53 : BitVec 32 := Scalar.muli v9 c4_i32_35
  let v54 : BitVec 32 := Scalar.addi c0_i32_36 v53
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_37 : BitVec 32 := 2#32
  let v55 : BitVec 32 := Scalar.muli v5 c2_i32_37
  let v56 : BitVec 32 := Scalar.addi v54 v55
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_38 : BitVec 32 := 1#32
  let v57 : BitVec 32 := Scalar.muli v8 c1_i32_38
  let v58 : BitVec 32 := Scalar.addi v56 v57
  v58.toNat
abbrev stage0_0 : Fin 1 → Memref sig .tc .vmem S2x512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev grid1 : Pipeline.Grid := ⟨2, ![2, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1x512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x2048x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S512x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S512x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S512x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S512x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev grid2 : Pipeline.Grid := ⟨2, ![2, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S512x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S2048x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S512x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]
-- ==== ReferenceIdeal.lean ====
abbrev S2x512x2048 : Shape := ⟨3, ![2, 512, 2048]⟩
abbrev S2048x256 : Shape := ⟨2, ![2048, 256]⟩
abbrev S256x2048 : Shape := ⟨2, ![256, 2048]⟩
abbrev S2048x2048 : Shape := ⟨2, ![2048, 2048]⟩
abbrev S2048x512 : Shape := ⟨2, ![2048, 512]⟩
abbrev S2048x32 : Shape := ⟨2, ![2048, 32]⟩
abbrev S2x512x256 : Shape := ⟨3, ![2, 512, 256]⟩
abbrev S2x512x16x128 : Shape := ⟨4, ![2, 512, 16, 128]⟩
abbrev S2x512x512 : Shape := ⟨3, ![2, 512, 512]⟩
abbrev S2x512x16x32 : Shape := ⟨4, ![2, 512, 16, 32]⟩
abbrev S2x512x32 : Shape := ⟨3, ![2, 512, 32]⟩
abbrev S2x512x1x32 : Shape := ⟨4, ![2, 512, 1, 32]⟩
abbrev S2x16x512x512 : Shape := ⟨4, ![2, 16, 512, 512]⟩
abbrev S_ : Shape := ⟨0, ![]⟩
abbrev S2x16x512 : Shape := ⟨3, ![2, 16, 512]⟩
abbrev S2x16x512x1 : Shape := ⟨4, ![2, 16, 512, 1]⟩
abbrev S2x16x128x512 : Shape := ⟨4, ![2, 16, 128, 512]⟩

abbrev nBuf : Space → Nat
  | .hbm => 41
  | .vmem => 0
  | .smem => 0
  | _ => 0

abbrev bufTy : (tb : Table) → Fin (tcTables nBuf tb) → BufTy
  | .hbm, ⟨0, _⟩ => ⟨S2x512x2048, .f32⟩
  | .hbm, ⟨1, _⟩ => ⟨S2048x256, .f32⟩
  | .hbm, ⟨2, _⟩ => ⟨S256x2048, .f32⟩
  | .hbm, ⟨3, _⟩ => ⟨S256x2048, .f32⟩
  | .hbm, ⟨4, _⟩ => ⟨S2048x2048, .f32⟩
  | .hbm, ⟨5, _⟩ => ⟨S2048x512, .f32⟩
  | .hbm, ⟨6, _⟩ => ⟨S2048x32, .f32⟩
  | .hbm, ⟨7, _⟩ => ⟨S2048x2048, .f32⟩
  | .hbm, ⟨8, _⟩ => ⟨S2x512x256, .f32⟩
  | .hbm, ⟨9, _⟩ => ⟨S2x512x2048, .f32⟩
  | .hbm, ⟨10, _⟩ => ⟨S2x512x16x128, .f32⟩
  | .hbm, ⟨11, _⟩ => ⟨S2x512x2048, .f32⟩
  | .hbm, ⟨12, _⟩ => ⟨S2x512x16x128, .f32⟩
  | .hbm, ⟨13, _⟩ => ⟨S2x512x2048, .f32⟩
  | .hbm, ⟨14, _⟩ => ⟨S2x512x16x128, .f32⟩
  | .hbm, ⟨15, _⟩ => ⟨S2x512x512, .f32⟩
  | .hbm, ⟨16, _⟩ => ⟨S2x512x16x32, .f32⟩
  | .hbm, ⟨17, _⟩ => ⟨S2x512x32, .f32⟩
  | .hbm, ⟨18, _⟩ => ⟨S2x512x1x32, .f32⟩
  | .hbm, ⟨19, _⟩ => ⟨S2x16x512x512, .f32⟩
  | .hbm, ⟨20, _⟩ => ⟨S2x512x16x32, .f32⟩
  | .hbm, ⟨21, _⟩ => ⟨S2x16x512x512, .f32⟩
  | .hbm, ⟨22, _⟩ => ⟨S2x16x512x512, .f32⟩
  | .hbm, ⟨23, _⟩ => ⟨S_, .f32⟩
  | .hbm, ⟨24, _⟩ => ⟨S2x16x512x512, .f32⟩
  | .hbm, ⟨25, _⟩ => ⟨S2x16x512x512, .f32⟩
  | .hbm, ⟨26, _⟩ => ⟨S_, .f32⟩
  | .hbm, ⟨27, _⟩ => ⟨S2x16x512, .f32⟩
  | .hbm, ⟨28, _⟩ => ⟨S2x16x512x1, .f32⟩
  | .hbm, ⟨29, _⟩ => ⟨S2x16x512x512, .f32⟩
  | .hbm, ⟨30, _⟩ => ⟨S2x16x512x512, .f32⟩
  | .hbm, ⟨31, _⟩ => ⟨S2x16x512x512, .f32⟩
  | .hbm, ⟨32, _⟩ => ⟨S_, .f32⟩
  | .hbm, ⟨33, _⟩ => ⟨S2x16x512, .f32⟩
  | .hbm, ⟨34, _⟩ => ⟨S2x16x512x1, .f32⟩
  | .hbm, ⟨35, _⟩ => ⟨S2x16x512x512, .f32⟩
  | .hbm, ⟨36, _⟩ => ⟨S2x16x512x512, .f32⟩
  | .hbm, ⟨37, _⟩ => ⟨S2x16x128x512, .f32⟩
  | .hbm, ⟨38, _⟩ => ⟨S2x512x16x128, .f32⟩
  | .hbm, ⟨39, _⟩ => ⟨S2x512x2048, .f32⟩
  | .hbm, ⟨40, _⟩ => ⟨S2x512x2048, .f32⟩
  | _, _ => ⟨S2x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Proof.Sheets.lean ====
/-
  Arrays made of blocks: two blocks of 512 rows, four blocks of 512 columns, and what a store or a load of one block
  does to them.
-/
module

public import Idealize.ShloMosaic.Lib.VecWindow
public import Idealize.ShloMosaic.Lib.Pointwise.Index

@[expose] public section

noncomputable section

namespace Cert.Sheets

open Idealize.ShloMosaic

variable {α : Type} {n : Nat}

/-- Two blocks of 512 rows, one above the other. -/
def rows (w : Fin 2 → (⟨2, ![512, n]⟩ : Shape).Idx → α) : (⟨2, ![1024, n]⟩ : Shape).Idx → α :=
  fun y => w ⟨(y 0).val / 512, by have : (y 0).val < 1024 := (y 0).isLt; omega⟩
    (ix2 ⟨(y 0).val % 512, Nat.mod_lt _ (by decide)⟩ (y 1))

/-- Four blocks of 512 columns, side by side. -/
def cols (w : Fin 4 → (⟨2, ![n, 512]⟩ : Shape).Idx → α) : (⟨2, ![n, 2048]⟩ : Shape).Idx → α :=
  fun y => w ⟨(y 1).val / 512, by have : (y 1).val < 2048 := (y 1).isLt; omega⟩
    (ix2 (y 0) ⟨(y 1).val % 512, Nat.mod_lt _ (by decide)⟩)

/-- Storing both row blocks leaves them, whatever the array held. -/
theorem put_rows (g : (⟨2, ![1024, n]⟩ : Shape).Idx → α) (a b : (⟨2, ![512, n]⟩ : Shape).Idx → α) :
    VecWindow.put (VecWindow.put g ![0, 0] ![512, n] a) ![512, 0] ![512, n] b = rows ![a, b] := by
  funext y
  have h0 : (y 0).val < 1024 := (y 0).isLt
  have h1 : (y 1).val < n := (y 1).isLt
  by_cases h : 512 ≤ (y 0).val
  · have hc : ∀ i : Fin 2, (![512, 0] : Fin 2 → ℕ) i ≤ (y i).val ∧ (y i).val < (![512, 0] : Fin 2 → ℕ) i + (![512, n] : Fin 2 → ℕ) i :=
      Fin.forall_fin_two.mpr ⟨by simp; omega, by simp; omega⟩
    refine (dif_pos hc).trans ?_
    have hk : (⟨(y 0).val / 512, by omega⟩ : Fin 2) = 1 := Fin.ext (by show (y 0).val / 512 = 1; omega)
    show _ = (![a, b] : Fin 2 → _) ⟨(y 0).val / 512, _⟩ _
    rw [hk]
    refine congrArg b (funext (Fin.forall_fin_two.mpr ⟨Fin.ext ?_, Fin.ext ?_⟩))
    · show (y 0).val - 512 = (y 0).val % 512; omega
    · show (y 1).val - 0 = (y 1).val; omega
  · have hn : ¬ ∀ i : Fin 2, (![512, 0] : Fin 2 → ℕ) i ≤ (y i).val ∧ (y i).val < (![512, 0] : Fin 2 → ℕ) i + (![512, n] : Fin 2 → ℕ) i :=
      fun hi => h (hi 0).1
    have hc : ∀ i : Fin 2, (![0, 0] : Fin 2 → ℕ) i ≤ (y i).val ∧ (y i).val < (![0, 0] : Fin 2 → ℕ) i + (![512, n] : Fin 2 → ℕ) i :=
      Fin.forall_fin_two.mpr ⟨by simp; omega, by simp; omega⟩
    refine (dif_neg hn).trans ((dif_pos hc).trans ?_)
    have hk : (⟨(y 0).val / 512, by omega⟩ : Fin 2) = 0 := Fin.ext (by show (y 0).val / 512 = 0; omega)
    show _ = (![a, b] : Fin 2 → _) ⟨(y 0).val / 512, _⟩ _
    rw [hk]
    refine congrArg a (funext (Fin.forall_fin_two.mpr ⟨Fin.ext ?_, Fin.ext ?_⟩))
    · show (y 0).val - 0 = (y 0).val % 512; omega
    · show (y 1).val - 0 = (y 1).val; omega

/-- Storing one column block replaces that block. -/
theorem put_cols (w : Fin 4 → (⟨2, ![n, 512]⟩ : Shape).Idx → α) (k : Fin 4) (off : Fin 2 → ℕ) (ho : off = ![0, 512 * k.val])
    (u : (⟨2, ![n, 512]⟩ : Shape).Idx → α) :
    VecWindow.put (s := ⟨2, ![n, 2048]⟩) (cols w) off ![n, 512] u = cols (Function.update w k u) := by
  subst ho
  funext y
  have h0 : (y 0).val < n := (y 0).isLt
  have h1 : (y 1).val < 2048 := (y 1).isLt
  by_cases h : (y 1).val / 512 = k.val
  · have hc : ∀ i : Fin 2, (![0, 512 * k.val] : Fin 2 → ℕ) i ≤ (y i).val ∧ (y i).val < (![0, 512 * k.val] : Fin 2 → ℕ) i + (![n, 512] : Fin 2 → ℕ) i :=
      Fin.forall_fin_two.mpr ⟨by simp; omega, by simp; omega⟩
    refine (dif_pos hc).trans ?_
    have hk : (⟨(y 1).val / 512, by omega⟩ : Fin 4) = k := Fin.ext h
    show _ = Function.update w k u ⟨(y 1).val / 512, _⟩ _
    rw [hk, Function.update_self]
    refine congrArg u (funext (Fin.forall_fin_two.mpr ⟨Fin.ext ?_, Fin.ext ?_⟩))
    · show (y 0).val - 0 = (y 0).val; omega
    · show (y 1).val - 512 * k.val = (y 1).val % 512; omega
  · have hn : ¬ ∀ i : Fin 2, (![0, 512 * k.val] : Fin 2 → ℕ) i ≤ (y i).val ∧ (y i).val < (![0, 512 * k.val] : Fin 2 → ℕ) i + (![n, 512] : Fin 2 → ℕ) i := fun hi => by
      have := hi 1; simp at this; omega
    refine (dif_neg hn).trans ?_
    have hk : (⟨(y 1).val / 512, by omega⟩ : Fin 4) ≠ k := fun e => h (congrArg Fin.val e)
    show w ⟨(y 1).val / 512, _⟩ _ = Function.update w k u ⟨(y 1).val / 512, _⟩ _
    rw [Function.update_of_ne hk]

/-- Loading one column block reads that block. -/
theorem window_cols (w : Fin 4 → (⟨2, ![n, 512]⟩ : Shape).Idx → α) (k : Fin 4) (off : Fin 2 → ℕ) (ho : off = ![0, 512 * k.val])
    (inb : ∀ a, off a + (![n, 512] : Fin 2 → ℕ) a ≤ (⟨2, ![n, 2048]⟩ : Shape).size a) :
    VecWindow.window (s := ⟨2, ![n, 2048]⟩) (cols w) off ![n, 512] inb = w k := by
  subst ho
  funext y
  have h1 : (y 1).val < 512 := (y 1).isLt
  show w ⟨(512 * k.val + 1 * (y 1).val) / 512, _⟩ _ = w k y
  have hk : (⟨(512 * k.val + 1 * (y 1).val) / 512, by have := k.isLt; omega⟩ : Fin 4) = k :=
    Fin.ext (by show (512 * k.val + 1 * (y 1).val) / 512 = k.val; omega)
  rw [hk]
  refine congrArg (w k) (funext (Fin.forall_fin_two.mpr ⟨Fin.ext ?_, Fin.ext ?_⟩))
  · show 0 + 1 * (y 0).val = (y 0).val; omega
  · show (512 * k.val + 1 * (y 1).val) % 512 = (y 1).val; omega

/-- Every array of 2048 columns is made of its four column blocks. -/
theorem exists_cols (g : (⟨2, ![n, 2048]⟩ : Shape).Idx → α) : ∃ w, g = cols w :=
  ⟨fun k z => g (ix2 (z 0) ⟨512 * k.val + (z 1).val, by have := k.isLt; have : (z 1).val < 512 := (z 1).isLt; omega⟩), by
    funext y
    refine congrArg g (funext (Fin.forall_fin_two.mpr ⟨rfl, Fin.ext ?_⟩))
    show (y 1).val = 512 * ((y 1).val / 512) + (y 1).val % 512
    omega⟩

/-- Replacing the four column blocks one after the other forgets the old ones. -/
theorem update_four {β : Type} (w : Fin 4 → β) (a b c d : β) :
    Function.update (Function.update (Function.update (Function.update w 0 a) 1 b) 2 c) 3 d = ![a, b, c, d] := by
  funext k; fin_cases k <;> rfl

end Cert.Sheets

end
-- ==== Proof.Pair.lean ====
/-
  The exchange between a device and its partner: what each array holds, the seven semaphores that carry the exchange,
  what each of them hands over, and what each device owes its partner at the start.
-/
module

public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Sheets
public import Idealize.ShloMosaic.Lib.Pipeline.RegionTalk
public import Idealize.ShloMosaic.Lib.Pipeline.RegionArraysS
public import Idealize.ShloMosaic.Lib.Pipeline.Frame

@[expose] public section

noncomputable section

namespace Cert.KernelIdeal.Pair

open Cert.KernelIdeal Cert.KernelIdeal.Gen Cert.Sheets
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-- Ghost state: one copy for the pipelines' own copies, one for the exchange. -/
abbrev UU : Type := URounds (GSem nD τ sig) Unit × URounds (GSem nD τ sig) Unit

variable {F : FTy → Type} [FloatOps F]

local notation "𝕄" => MT nD τ sig Unit (Elt F) ℕ UU ℕ

/-- The rounds of the pipelines' own semaphores. -/
abbrev EP : Emb (URounds (GSem nD τ sig) Unit) (MT nD τ sig Unit (Elt F) ℕ UU ℕ) := embL
/-- The rounds of the exchange. -/
abbrev EX : Emb (URounds (GSem nD τ sig) Unit) (MT nD τ sig Unit (Elt F) ℕ UU ℕ) := embR

/-- No loop needs a measure. -/
abbrev 𝒱₀ : Variants := Variants.none

variable (m : (ℓ : Loc nD τ sig) → Buf (Elt F) ℓ)

/-! ## Partners -/

/-- The device that holds the other half of the shared columns. -/
def mate (c : Dev nD) : Dev nD := ⟨(c.val + 4) % 8, Nat.mod_lt _ (by decide)⟩
/-- The partner's partner is the device itself. -/
theorem mate_mate (c : Dev nD) : mate (mate c) = c := by revert c; decide
/-- Partnership as a permutation of the devices. -/
def swap : Dev nD ≃ Dev nD := ⟨mate, mate, mate_mate, mate_mate⟩
/-- The signal and the three copies are all addressed to the partner. -/
theorem dev1_eq (c : Dev nD) : (⟨k0_dev1 c, k0_dev1_lt c⟩ : Dev nD) = mate c := by revert c; decide
/-- The first copy goes to the partner. -/
theorem dev2_eq (c : Dev nD) : (⟨k0_dev2 c, k0_dev2_lt c⟩ : Dev nD) = mate c := by revert c; decide
/-- So does the second. -/
theorem dev3_eq (c : Dev nD) : (⟨k0_dev3 c, k0_dev3_lt c⟩ : Dev nD) = mate c := by revert c; decide
/-- So does the third. -/
theorem dev4_eq (c : Dev nD) : (⟨k0_dev4 c, k0_dev4_lt c⟩ : Dev nD) = mate c := by revert c; decide

/-! ## What the arrays hold -/

/-- The arguments the first kernel reads, at the start. -/
def argX (c : Dev nD) : Vec F S2x512x2048 .f32 := m ((c : Dev nD), Proc.devRef .tc main_arg0)
/-- Its half of the down-projection. -/
def argD (c : Dev nD) : Vec F S2048x128 .f32 := m ((c : Dev nD), Proc.devRef .tc main_arg1)
/-- Its half of the key up-projection. -/
def argK (c : Dev nD) : Vec F S128x2048 .f32 := m ((c : Dev nD), Proc.devRef .tc main_arg2)
/-- Its half of the value up-projection. -/
def argV (c : Dev nD) : Vec F S128x2048 .f32 := m ((c : Dev nD), Proc.devRef .tc main_arg3)
/-- The rotary key weights. -/
def argR (c : Dev nD) : Vec F S2048x32 .f32 := m ((c : Dev nD), Proc.devRef .tc main_arg6)

/-- The first and the second batch entry of `x`. -/
abbrev batch0 (x : Vec F S2x512x2048 .f32) : Vec F S1x512x2048 .f32 :=
  VecWindow.window x ![0, 0, 0] S1x512x2048.size inb_S2x512x2048_S1x512x2048_0_0_0
/-- The second batch entry. -/
abbrev batch1 (x : Vec F S2x512x2048 .f32) : Vec F S1x512x2048 .f32 :=
  VecWindow.window x ![1, 0, 0] S1x512x2048.size inb_S2x512x2048_S1x512x2048_1_0_0

/-- Column blocks 0 to 3 of an up-projection. -/
abbrev chunk0 (w : Vec F S128x2048 .f32) : Vec F S128x512 .f32 :=
  VecWindow.window w ![0, 0] S128x512.size inb_S128x2048_S128x512_0_0
/-- Column block 1. -/
abbrev chunk1 (w : Vec F S128x2048 .f32) : Vec F S128x512 .f32 :=
  VecWindow.window w ![0, 512] S128x512.size inb_S128x2048_S128x512_0_512
/-- Column block 2. -/
abbrev chunk2 (w : Vec F S128x2048 .f32) : Vec F S128x512 .f32 :=
  VecWindow.window w ![0, 1024] S128x512.size inb_S128x2048_S128x512_0_1024
/-- Column block 3. -/
abbrev chunk3 (w : Vec F S128x2048 .f32) : Vec F S128x512 .f32 :=
  VecWindow.window w ![0, 1536] S128x512.size inb_S128x2048_S128x512_0_1536

/-- The device's own slice of the compressed activations. -/
def cOf (x : Vec F S2x512x2048 .f32) (d : Vec F S2048x128 .f32) : Vec F S1024x128 .f32 :=
  rows ![k0_pay3 (batch0 x) d, k0_pay6 (k0_pay4 (batch1 x)) (k0_pay5 d)]
/-- The same, of device `c`. -/
def cAt (c : Dev nD) : Vec F S1024x128 .f32 := cOf (argX m c) (argD m c)

/-- A column block of keys or values: the device's own part plus the partner's. -/
abbrev both (c : Vec F S1024x128 .f32) (w : Vec F S128x512 .f32) (c' : Vec F S1024x128 .f32) (w' : Vec F S128x512 .f32) :
    Vec F S1024x512 .f32 := k0_pay17 (k0_pay7 c w) c' w'

/-- Keys or values of all heads. -/
def kvOf (c : Vec F S1024x128 .f32) (w : Vec F S128x2048 .f32) (c' : Vec F S1024x128 .f32) (w' : Vec F S128x2048 .f32) :
    Vec F S1024x2048 .f32 :=
  cols ![both c (chunk0 w) c' (chunk0 w'), both c (chunk1 w) c' (chunk1 w'), both c (chunk2 w) c' (chunk2 w'),
    both c (chunk3 w) c' (chunk3 w')]
/-- Device `c`'s keys. -/
def kAt (c : Dev nD) : Vec F S1024x2048 .f32 := kvOf (cAt m c) (argK m c) (cAt m (mate c)) (argK m (mate c))
/-- Device `c`'s values. -/
def vAt (c : Dev nD) : Vec F S1024x2048 .f32 := kvOf (cAt m c) (argV m c) (cAt m (mate c)) (argV m (mate c))

/-- The rotary keys. -/
def rAt (c : Dev nD) : Vec F S1024x32 .f32 :=
  rows ![k0_pay15 (batch0 (argX m c)) (argR m c), k0_pay16 (batch1 (argX m c)) (argR m c)]

/-- A share of buffer `b` of device `c` at contents `f`. -/
abbrev pt (c : Dev nD) (b : Ref sig .tc) (q : PosShare TreeShare) (f : Buf (Elt F) ((c : Thread nD τ).loc b)) : sProp 𝕄 :=
  ((c : Thread nD τ).loc b) ↦{q} f
/-- Buffer `b` of device `c`, whole, at some contents. -/
abbrev someOf (c : Dev nD) (b : Ref sig .tc) : sProp 𝕄 := iprop(∃ f, pt c b fullShare f)

/-! ## The seven semaphores -/

/-- The barrier; the three counted by the sender; the three counted by the receiver. -/
abbrev sm : Fin 7 → SemLoc sig :=
  ![.reg barrier0, .dma 8, .dma 9, .dma 10, .dma 11, .dma 12, .dma 13]
/-- The seven are different semaphores. -/
theorem sm_inj : Function.Injective sm := by decide
/-- Semaphore `k` of device `c`. -/
abbrev cell (k : Fin 7) (c : Dev nD) : GSem nD τ sig := ((c : Thread nD τ), sm k)

/-- Which of the seven a semaphore is, if any. -/
def kindOf (s : SemLoc sig) : Option (Fin 7) := (List.finRange 7).find? fun k => decide (sm k = s)
/-- Looking one of the seven up finds it. -/
theorem kindOf_sm : ∀ k : Fin 7, kindOf (sm k) = some k := by decide

/-- Units of a copy of the compressed columns. -/
abbrev amtC : ℕ := (Memref.whole cc0_scratch1 : Memref sig .tc .vmem S1024x128 .f32).view.dmaCredit
/-- Units of a copy of an up-projection. -/
abbrev amtW : ℕ := (Memref.whole cc0_scratch2 : Memref sig .tc .vmem S128x2048 .f32).view.dmaCredit
/-- Units each is raised by. -/
def amt : Fin 7 → ℕ := ![1, amtC, amtW, amtW, amtC, amtW, amtW]
/-- Every amount is positive. -/
theorem amt_pos : ∀ k, 0 < amt k := by
  have hC : 0 < amtC := View.dmaCredit_pos _ (by decide)
  have hW : 0 < amtW := View.dmaCredit_pos _ (by decide)
  intro k; fin_cases k
  exacts [Nat.one_pos, hC, hW, hW, hC, hW, hW]

/-- What a unit on each hands to the device that waits there: with the barrier, the partner's three landing buffers;
    with a send, the share of the source that was lent; with a receive, the landing buffer filled by the partner. -/
def pay (k : Fin 7) (c : Dev nD) : sProp 𝕄 :=
  match k with
  | 0 => iprop((someOf (mate c) cc0_scratch1 ∗ someOf (mate c) cc0_scratch2 ∗ someOf (mate c) cc0_scratch3)
      ∗ reached EX (cell 4 (mate c)) 0 ∗ reached EX (cell 5 (mate c)) 0 ∗ reached EX (cell 6 (mate c)) 0)
  | 1 => pt c cc0_scratch0 fullShare.left (cAt m c)
  | 2 => pt c cc0_stg2_0 fullShare.left (argK m c)
  | 3 => pt c cc0_stg3_0 fullShare.left (argV m c)
  | 4 => pt c cc0_scratch1 fullShare (cAt m (mate c))
  | 5 => pt c cc0_scratch2 fullShare (argK m (mate c))
  | 6 => pt c cc0_scratch3 fullShare (argV m (mate c))

instance pay_storable (k : Fin 7) (c : Dev nD) : BI.Storable (upEmb : UEmb _ 𝕄) (pay m k c) := by
  unfold pay; split <;> infer_instance

/-- One round of one duty on each of the seven cells of each device. -/
def plan : Rounds.Schedule (GSem nD τ sig) Unit 𝕄 where
  duties g r := if r = 0 ∧ g.1.2 = .tc ∧ (kindOf g.2).isSome then {()} else ∅
  amount g _ _ := (kindOf g.2).elim 1 amt
  payload g _ _ := (kindOf g.2).elim iprop(emp) fun k => pay m k g.1.1
  amount_pos g _ _ _ := by cases h : kindOf g.2 with
    | none => exact Nat.one_pos
    | some k => exact amt_pos k

instance plan_storable (g : GSem nD τ sig) (r : ℕ) (d : Unit) :
    BI.Storable (upEmb : UEmb _ 𝕄) ((plan (F := F) m).payload g r d) := by
  show BI.Storable _ ((kindOf g.2).elim iprop(emp) fun k => pay m k g.1.1)
  cases kindOf g.2 with
  | none => exact inferInstanceAs (BI.Storable _ iprop(emp))
  | some k => exact pay_storable m k g.1.1

section Plan

variable (k : Fin 7) (c : Dev nD)

/-- Round 0 of a cell has one duty. -/
theorem duties_cell : (plan (F := F) m).duties (cell k c) 0 = {()} := by
  dsimp only [plan]; exact if_pos ⟨rfl, rfl, by rw [kindOf_sm]; rfl⟩
/-- That duty is in round 0. -/
theorem duty_mem : () ∈ (plan (F := F) m).duties (cell k c) 0 := by rw [duties_cell]; exact Finset.mem_singleton_self _
/-- No round after it has any. -/
theorem duties_later (g : GSem nD τ sig) : ∀ r, 0 + 1 ≤ r → (plan (F := F) m).duties g r = ∅ :=
  fun r hr => if_neg fun h => by have := h.1; omega
/-- The duty's amount. -/
theorem amount_cell (u : Unit) : (plan (F := F) m).amount (cell k c) 0 u = amt k := by
  dsimp only [plan]; rw [kindOf_sm]; rfl
/-- A round expects that amount. -/
theorem expect_cell : (plan (F := F) m).expect (cell k c) 0 = amt k := by
  unfold Schedule.expect Schedule.amountOf; rw [duties_cell, Finset.sum_singleton, amount_cell]
/-- The duty hands over the cell's payload. -/
theorem payload_cell (u : Unit) : (plan (F := F) m).payload (cell k c) 0 u = pay m k c := by
  dsimp only [plan]; rw [kindOf_sm]; rfl
/-- All that a wait collects is that payload. -/
theorem rest_cell : bigSep ((plan (F := F) m).duties (cell k c) 0 \ ∅) (fun u => (plan (F := F) m).payload (cell k c) 0 u) = pay m k c := by
  rw [Finset.sdiff_empty, duties_cell, bigSep_singleton, payload_cell]

end Plan

/-! ## What a device owes, and in which order -/

/-- Units owed on the partner's cell `k`. -/
abbrev dueAt (k : Fin 7) (c : Dev nD) : CellTallies nD τ sig Unit := tallyAt (cell k (mate c)) () (amt k)
/-- After the signal, only the three copies are owed. -/
abbrev dueCopies (c : Dev nD) : CellTallies nD τ sig Unit := dueAt 6 c + dueAt 5 c + dueAt 4 c
/-- All that a device owes at the start: the signal and the three copies. -/
def due (c : Dev nD) : CellTallies nD τ sig Unit := dueCopies c + dueAt 0 c

/-- Cells on which the partner owes. -/
abbrev owedKind : Fin 7 → Bool := ![true, false, false, false, true, true, true]

/-- Cells are equal when both their kind and their device are. -/
theorem cell_eq_iff {k k' : Fin 7} {c c' : Dev nD} : cell k c = cell k' c' ↔ k = k' ∧ c = c' := by
  constructor
  · intro h
    exact ⟨sm_inj (congrArg Prod.snd h), Fin.ext (congrArg (fun g : GSem nD τ sig => g.1.1.val) h)⟩
  · rintro ⟨rfl, rfl⟩; rfl

/-- What is owed on a cell, read off. -/
theorem dueAt_cell (k k' : Fin 7) (d c : Dev nD) : dueAt k d (cell k' c) () = if k' = k ∧ d = mate c then amt k else 0 := by
  rw [tallyAt_apply]
  refine if_congr ?_ rfl rfl
  rw [cell_eq_iff]
  constructor
  · rintro ⟨⟨h1, h2⟩, -⟩; exact ⟨h1, by rw [h2, mate_mate]⟩
  · rintro ⟨h1, h2⟩; exact ⟨⟨h1, by rw [h2, mate_mate]⟩, rfl⟩

/-- Exactly the partner owes, on each cell where something is owed. -/
theorem due_cell (k : Fin 7) (hk : owedKind k = true) (d c : Dev nD) : due d (cell k c) () = if d = mate c then amt k else 0 := by
  unfold due
  simp only [Pi.add_apply, Finsupp.add_apply, dueAt_cell]
  by_cases h : d = mate c
  · simp only [h, and_true, if_true]
    revert hk; fin_cases k <;> simp [owedKind]
  · simp only [h, and_false, if_false, Nat.add_zero]

/-- Something owed is owed on the partner's barrier or on one of its receiving cells. -/
theorem due_pos {c : Dev nD} {g : GSem nD τ sig} {u : Unit} (h : 0 < due c g u) : ∃ k, owedKind k = true ∧ g = cell k (mate c) := by
  by_contra hne
  have hz : ∀ k, owedKind k = true → dueAt k c g u = 0 := fun k hk => by
    rw [tallyAt_apply, if_neg fun hg => hne ⟨k, hk, hg.1⟩]
  unfold due at h
  simp only [Pi.add_apply, Finsupp.add_apply, hz 0 rfl, hz 4 rfl, hz 5 rfl, hz 6 rfl] at h
  omega

/-- All indices of the TensorCores' cells; none elsewhere. -/
def L (g : GSem nD τ sig) : Finset Unit := if g.1.2 = .tc then {()} else ∅
/-- Waiting order: barrier before receives, all else first. -/
def lv (g : GSem nD τ sig) (_ : Unit) : ℕ := (kindOf g.2).elim 0 ![1, 0, 0, 0, 2, 2, 2]

/-- Only the main processor's cells have levels. -/
theorem L_of_ne (g : GSem nD τ sig) (h : g.1.2 ≠ .tc) : L g = ∅ := if_neg h
/-- Each of its cells has one. -/
theorem mem_L (c : Dev nD) (s : SemLoc sig) (u : Unit) : u ∈ L ((c : Thread nD τ), s) := by
  rw [show L ((c : Thread nD τ), s) = {()} from if_pos rfl]; exact Finset.mem_singleton_self _
/-- The level of each of the seven. -/
theorem lv_cell (k : Fin 7) (c : Dev nD) (u : Unit) : lv (cell k c) u = (![1, 0, 0, 0, 2, 2, 2] : Fin 7 → ℕ) k := by
  unfold lv; rw [kindOf_sm]; rfl
/-- A cell on which something is owed lies above level zero. -/
theorem lv_pos (k : Fin 7) (hk : owedKind k = true) (c : Dev nD) (u : Unit) : 0 < lv (cell k c) u := by
  rw [lv_cell]; revert hk; revert k; decide

/-- The barrier may be waited on while the three copies are still owed. -/
theorem mayWait_barrier (c : Dev nD) : (levAts L lv : sProp 𝕄) ⊢ MayWait (c : Thread nD τ) (sm 0) () (dueCopies c) := by
  have hpos : ∀ g u, 0 < dueCopies c g u → ∃ k, (k = 4 ∨ k = 5 ∨ k = 6) ∧ g = cell k (mate c) := fun g u h => by
    by_contra hne
    have hz : ∀ k, (k = 4 ∨ k = 5 ∨ k = 6) → dueAt k c g u = 0 := fun k hk => by
      rw [tallyAt_apply, if_neg fun hg => hne ⟨k, hk, hg.1⟩]
    simp only [Pi.add_apply, Finsupp.add_apply, hz 4 (.inl rfl), hz 5 (.inr (.inl rfl)), hz 6 (.inr (.inr rfl))] at h
    omega
  refine MayOwe.of_cut (L := L) (lev := lv) 1 (fun p hp => ?_) (fun g u hg => ?_) (fun p hp => ?_) (fun g u hg => ?_)
  · rw [Finset.mem_singleton.mp hp]; exact mem_L c _ _
  · obtain ⟨k, -, rfl⟩ := hpos g u hg; exact mem_L _ _ _
  · rw [Finset.mem_singleton.mp hp]; exact (lv_cell 0 c ()).le
  · obtain ⟨k, hk, rfl⟩ := hpos g u hg
    rw [lv_cell]; rcases hk with rfl | rfl | rfl <;> decide

end Cert.KernelIdeal.Pair

end
-- ==== Proof.Steps.lean ====
/-
  One step of the first kernel at a time: loads and stores of whole buffers, the three copies, the waits.
-/
module

public import proofs.«01_k».proof.Proof.Pair
public import Idealize.ShloMosaic.Lib.Tactic

@[expose] public section

noncomputable section

namespace Cert.KernelIdeal.Pair

open Cert.KernelIdeal Cert.KernelIdeal.Gen Cert.Sheets
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The weakest precondition on device `c`'s core. -/
abbrev run {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- A program that only returns. -/
theorem run_ret {α : Type} (c : Dev nD) {x : α} {Q : α → sProp 𝕄} : Q x ⊢ run c (.ret x) Q := by
  unfold run; rw [wp_ret]; iintro H; imodintro; iexact H

/-- The vector-memory buffer number `i`. -/
abbrev vm (i : Fin (sig.nNear .tc .vmem)) (hi : sig.names .tc .vmem i = true) : Ref sig .tc := ⟨.vmem, i, hi⟩

section Memory

variable {α : Type} (c : Dev nD)

/-- Loading part of a buffer reads that part. -/
theorem load_part {Q : α → sProp 𝕄} {i : Fin (sig.nNear .tc .vmem)} {hi : sig.names .tc .vmem i = true} {q : PosShare TreeShare} {f : Buf (Elt F) ((c : Thread nD τ).loc (vm i hi))}
    {off size : Fin (vm i hi).ty.shape.rank → ℕ} {inb : ∀ a, off a + size a ≤ (vm i hi).ty.shape.size a}
    {hl : (Memref.whole (vm i hi)).view.LoadsAt (Rect.unit off size inb).toLoadRect}
    {k : ((Rect.unit off size inb).shape.Idx → Elt F (vm i hi).ty.elt) → Prog (TpuEff nD τ sig (Elt F) Λ₀ .tc) α} :
    (pt c (vm i hi) q f) ⊢ iprop((pt c (vm i hi) q f -∗ run c (k (VecWindow.window f off size inb)) Q)
      -∗ run c (.op (.load (Memref.whole (vm i hi)) (Rect.unit off size inb).toLoadRect hl) k) Q) :=
  wp_load 𝒱₀ (c : Thread nD τ) none Set.univ (m := Memref.whole (vm i hi)) (Finset.subset_univ _)

/-- Loading all of a buffer reads its contents. -/
theorem load_all {Q : α → sProp 𝕄} {i : Fin (sig.nNear .tc .vmem)} {hi : sig.names .tc .vmem i = true} {q : PosShare TreeShare} {f : Buf (Elt F) ((c : Thread nD τ).loc (vm i hi))}
    {off : Fin (vm i hi).ty.shape.rank → ℕ} {inb : ∀ a, off a + (vm i hi).ty.shape.size a ≤ (vm i hi).ty.shape.size a}
    {hl : (Memref.whole (vm i hi)).view.LoadsAt (Rect.unit off (vm i hi).ty.shape.size inb).toLoadRect}
    {k : ((Rect.unit off (vm i hi).ty.shape.size inb).shape.Idx → Elt F (vm i hi).ty.elt) → Prog (TpuEff nD τ sig (Elt F) Λ₀ .tc) α} :
    (pt c (vm i hi) q f) ⊢ iprop((pt c (vm i hi) q f -∗ run c (k f) Q)
      -∗ run c (.op (.load (Memref.whole (vm i hi)) (Rect.unit off (vm i hi).ty.shape.size inb).toLoadRect hl) k) Q) := by
  have h := load_part (F := F) c (Q := Q) (q := q) (f := f) (hl := hl) (k := k)
  rwa [show VecWindow.window f off (vm i hi).ty.shape.size inb = f from funext fun z => congrArg f (Rect.emb_unit_full inb z)] at h

/-- Storing part of a buffer writes through that part. -/
theorem store_raw {Q : α → sProp 𝕄} {i : Fin (sig.nNear .tc .vmem)} {hi : sig.names .tc .vmem i = true} {f : Buf (Elt F) ((c : Thread nD τ).loc (vm i hi))}
    {r : Rect (vm i hi).ty.shape} {w : r.shape.Idx → Elt F (vm i hi).ty.elt}
    {hx : ((Memref.whole (vm i hi)).access r).Stores Finset.univ}
    {hm : (Finset.univ : Finset r.shape.Idx) = Finset.univ ∨ ∀ a, r.stride a = 1}
    {k : PUnit → Prog (TpuEff nD τ sig (Elt F) Λ₀ .tc) α} :
    (pt c (vm i hi) fullShare f) ⊢ iprop((pt c (vm i hi) fullShare (((Memref.whole (vm i hi)).access r).write (Elt F) f w Finset.univ) -∗ run c (k ⟨⟩) Q)
      -∗ run c (.op (.store (Memref.whole (vm i hi)) r w Finset.univ hx hm) k) Q) :=
  wp_store 𝒱₀ (c : Thread nD τ) none Set.univ (m := Memref.whole (vm i hi)) (r := r) (w := w) (Mk := Finset.univ) (S := Finset.univ) (f := f) (Finset.subset_univ _)

/-- Storing part of a buffer replaces that part. -/
theorem store_part {Q : α → sProp 𝕄} {i : Fin (sig.nNear .tc .vmem)} {hi : sig.names .tc .vmem i = true} {f : Buf (Elt F) ((c : Thread nD τ).loc (vm i hi))}
    {off size : Fin (vm i hi).ty.shape.rank → ℕ} {inb : ∀ a, off a + size a ≤ (vm i hi).ty.shape.size a}
    {w : (Rect.unit off size inb).shape.Idx → Elt F (vm i hi).ty.elt}
    {hx : ((Memref.whole (vm i hi)).access (Rect.unit off size inb)).Stores Finset.univ}
    {hm : (Finset.univ : Finset (Rect.unit off size inb).shape.Idx) = Finset.univ ∨ ∀ a, (Rect.unit off size inb).stride a = 1}
    {k : PUnit → Prog (TpuEff nD τ sig (Elt F) Λ₀ .tc) α} :
    (pt c (vm i hi) fullShare f) ⊢ iprop((pt c (vm i hi) fullShare (VecWindow.put f off size w) -∗ run c (k ⟨⟩) Q)
      -∗ run c (.op (.store (Memref.whole (vm i hi)) (Rect.unit off size inb) w Finset.univ hx hm) k) Q) := by
  have e : ((Memref.whole (vm i hi)).access (Rect.unit off size inb)).write (Elt F) f w Finset.univ = VecWindow.put f off size w := by
    have := View.read_writes_cons_put (Val := Elt F) (View.whole (vm i hi)) f inb w [] rfl
    rwa [View.read_whole, View.read_whole] at this
  have h := store_raw (F := F) c (Q := Q) (f := f) (w := w) (hx := hx) (hm := hm) (k := k)
  rwa [e] at h

end Memory

/-! ## The records every device may consult -/

/-- The barrier cells. -/
def barEmb : Dev nD ↪ GSem nD τ sig := ⟨fun c => cell 0 c, fun _ _ h => (cell_eq_iff.mp h).2⟩
/-- The six cells of the copies. -/
def copyEmb : Dev nD × Fin 6 ↪ GSem nD τ sig := ⟨fun ck => cell ck.2.succ ck.1, fun _ _ h =>
  Prod.ext (cell_eq_iff.mp h).2 (Fin.succ_injective _ (cell_eq_iff.mp h).1)⟩
/-- All barrier cells. -/
abbrev barCells : Finset (GSem nD τ sig) := Finset.univ.map barEmb
/-- All cells that copies raise. -/
abbrev copyCells : Finset (GSem nD τ sig) := Finset.univ.map copyEmb
/-- Each of the seven cells is among them. -/
theorem mem_cells (k : Fin 7) (c : Dev nD) : cell k c ∈ (barCells ∪ copyCells : Finset (GSem nD τ sig)) := by
  cases k using Fin.cases with
  | zero => exact Finset.mem_union_left _ (Finset.mem_map_of_mem barEmb (Finset.mem_univ c))
  | succ j => exact Finset.mem_union_right _ (Finset.mem_map_of_mem copyEmb (Finset.mem_univ (c, j)))

/-- All cells' invariants, under the names `κ`; round 0 of each barrier cell reached. -/
def records (κ : GSem nD τ sig → ℕ) : sProp 𝕄 :=
  iprop((bigSep (barCells ∪ copyCells) fun g => cellInv EX (plan m) (κ g) g) ∗ bigSep barCells fun g => reached EX g 0)

instance records_persistent (κ : GSem nD τ sig → ℕ) : BI.Persistent (records m κ) := by unfold records; infer_instance

/-- The record of one cell, out of all. -/
theorem inv_at (κ : GSem nD τ sig → ℕ) (k : Fin 7) (c : Dev nD) : records m κ ⊢ cellInv EX (plan m) (κ (cell k c)) (cell k c) := by
  exact Laws.sep_and.trans (and_elimL.trans (bigSep_elim (Φ := fun g => (cellInv EX (plan m) (κ g) g : sProp 𝕄)) (mem_cells k c)))
/-- The barrier's round 0 is open. -/
theorem bar_reached (κ : GSem nD τ sig → ℕ) (c : Dev nD) : records m κ ⊢ (reached EX (cell 0 c) 0 : sProp 𝕄) := by
  exact Laws.sep_and.trans (and_elimR.trans (bigSep_elim (Φ := fun g => (reached EX g 0 : sProp 𝕄)) (Finset.mem_map_of_mem barEmb (Finset.mem_univ c))))

/-! ## Copies and waits -/

section Talk

variable {α : Type} (κ : GSem nD τ sig → ℕ) (c : Dev nD)

/-- A copy to the partner: a share of the source is lent until the send is counted, the partner's landing buffer is
    filled. -/
theorem ship {Q : α → sProp 𝕄} {s : Shape} {e : EltTy} {d : Dev nD} (hd : d = mate c) {k₁ k₂ : Fin 7} {sS sR : DmaSem sig}
    (h₁ : SemLoc.dma sS = sm k₁) (h₂ : SemLoc.dma sR = sm k₂) (hk : amt k₁ = amt k₂)
    {src dst : Memref sig .tc .vmem s e} (hs : src.view.set = Finset.univ) (ht : dst.view.set = Finset.univ)
    (hN : dst.view.dmaCredit = amt k₂)
    {hsc : dst.view.ref.isScScratch = false} {hsrc : src.view.WordExact} {hdst : dst.view.WordExact}
    {hsem : DmaTarget.Typed .vmem (SemLoc.dma sR) (.remote (d : Thread nD τ) dst (.dma sS) hsc)}
    {k : PUnit → Prog (TpuEff nD τ sig (Elt F) Λ₀ .tc) α} {q : PosShare TreeShare}
    {fs : Buf (Elt F) (src.view.loc (c : Thread nD τ))} {fd : Buf (Elt F) (dst.view.loc (mate c : Thread nD τ))}
    {O : CellTallies nD τ sig Unit} {W : Waits sig Unit}
    (hp₁ : (src.view.loc (c : Thread nD τ) ↦{q} fs) ⊢ pay m k₁ c)
    (hp₂ : (dst.view.loc (mate c : Thread nD τ) ↦{fullShare} (dst.view.write (Elt F) fd (src.view.read (Elt F) fs) Finset.univ)) ⊢ pay m k₂ (mate c)) :
    iprop(records m κ ∗ (src.view.loc (c : Thread nD τ) ↦{q} fs) ∗ (dst.view.loc (mate c : Thread nD τ) ↦{fullShare} fd)
        ∗ owes (c : Thread nD τ) (O + dueAt k₂ c) W
        ∗ dutyTok EX (cell k₁ c) 0 () ∗ reached EX (cell k₁ c) 0
        ∗ dutyTok EX (cell k₂ (mate c)) 0 () ∗ reached EX (cell k₂ (mate c)) 0)
      ⊢ iprop(((cred (tallyAt (cell k₁ c) () (amt k₁)) ∗ owes (c : Thread nD τ) O W) -∗ run c (k ⟨⟩) Q)
        -∗ run c (.op (.enqueueDma src (.remote (d : Thread nD τ) dst (.dma sS) hsc) (.dma sR) hsrc hdst hsem) k) Q) := by
  subst hd
  have e₁ : cell k₁ c = ((c : Thread nD τ), SemLoc.dma sS) := by rw [h₁]
  have e₂ : cell k₂ (mate c) = ((mate c : Thread nD τ), SemLoc.dma sR) := by rw [h₂]
  have d₁ := duty_mem (F := F) m k₁ c
  have d₂ := duty_mem (F := F) m k₂ (mate c)
  have a₁ := amount_cell (F := F) m k₁ c ()
  have a₂ := amount_cell (F := F) m k₂ (mate c) ()
  have p₁ := payload_cell (F := F) m k₁ c ()
  have p₂ := payload_cell (F := F) m k₂ (mate c) ()
  have i₁ := inv_at (F := F) m κ k₁ c
  have i₂ := inv_at (F := F) m κ k₂ (mate c)
  rw [← p₁] at hp₁
  rw [← p₂] at hp₂
  unfold dueAt
  rw [e₁] at d₁ a₁ hp₁ i₁ ⊢
  rw [e₂] at d₂ a₂ hp₂ i₂ ⊢
  have hsend := Rounds.wp_send_pointsTo (defs := defs₀ (F := F)) 𝒱₀ EX (plan m) (c : Thread nD τ) none (Γ := [])
    (c' := (mate c : Thread nD τ)) (src := src) (dst := dst) (hsc := hsc) (hsrc := hsrc) (hdst := hdst) (hsem := hsem)
    (sS := .dma sS) (sem := .dma sR) (q := q) (fs := fs) (fd := fd) (r₁ := 0) (r₂ := 0) (d₁ := ()) (d₂ := ())
    (κ₁ := κ ((c : Thread nD τ), SemLoc.dma sS)) (κ₂ := κ ((mate c : Thread nD τ), SemLoc.dma sR))
    d₁ d₂ () () (amt k₂) hN (a₁.trans hk) a₂ O rfl (W := W) (by rw [hs]; exact hp₁) (by rw [ht]; exact hp₂) (k := k) (Q := Q) (Es := Set.univ)
  rw [hs, ht] at hsend
  rw [hk]
  iintro ⟨#HR, Hs, Hd, HO, Ht, Hr, Ht', Hr'⟩
  iapply hsend
  isplitr; · iapply i₁ $$ HR
  isplitr; · iapply i₂ $$ HR
  isplitl [Hs]; · iexact Hs
  isplitl [Hd]; · iexact Hd
  isplitl [HO]; · iexact HO
  isplitl [Ht]; · iexact Ht
  isplitl [Hr]; · iexact Hr
  isplitl [Ht'] <;> iassumption

/-- A wait for all that its cell expects. -/
theorem await {Q : α → sProp 𝕄} (k : Fin 7) {n : ℕ} (hn : n = amt k) {w : TpuEff nD τ sig (Elt F) Λ₀ .tc PUnit}
    (hw : ∀ K : PUnit → sProp 𝕄, wpE (defs₀ (F := F)) 𝒱₀ (c : Thread nD τ) none Set.univ w K = waitSpec (c : Thread nD τ) Set.univ (sm k) n K)
    {k' : PUnit → Prog (TpuEff nD τ sig (Elt F) Λ₀ .tc) α} {O : CellTallies nD τ sig Unit} {W : Waits sig Unit} :
    iprop(records m κ ∗ cred (tallyAt (cell k c) () (amt k)) ∗ owes (c : Thread nD τ) O W ∗ MayWait (c : Thread nD τ) (sm k) () O
        ∗ atPos EX (cell k c) 0 ∅ 0)
      ⊢ iprop((((∃ W', owes (c : Thread nD τ) O W') ∗ atPos EX (cell k c) (0 + 1) ∅ 0 ∗ pay m k c) -∗ run c (k' ⟨⟩) Q)
        -∗ run c (.op w k') Q) := by
  subst hn
  iintro ⟨#HR, Hc, HO, HM, Hat⟩ Hk
  iapply (Rounds.wp_wait_rest_token 𝒱₀ EX (plan m) (c : Thread nD τ) none (κ := κ (cell k c)) hw (Set.mem_univ _) () (O := O) (W := W)
      (R := 0) (m := 0) (T := ∅) ((Nat.zero_add _).trans (expect_cell m k c).symm)) $$ [Hc HO HM Hat]
  · isplitr; · iapply (inv_at m κ k c) $$ HR
    isplitl [Hc]; · iexact Hc
    isplitl [HO]; · iexact HO
    isplitl [HM] <;> iassumption
  iintro ⟨HO, Hat, -, Hp⟩
  iapply Hk
  isplitl [HO]; · iexists _; iexact HO
  isplitl [Hat]; · iexact Hat
  iapply (Entails.of_eq (rest_cell m k c)) $$ Hp

/-- A wait while nothing is owed. -/
theorem await_free {Q : α → sProp 𝕄} (k : Fin 7) {n : ℕ} (hn : n = amt k) {w : TpuEff nD τ sig (Elt F) Λ₀ .tc PUnit}
    (hw : ∀ K : PUnit → sProp 𝕄, wpE (defs₀ (F := F)) 𝒱₀ (c : Thread nD τ) none Set.univ w K = waitSpec (c : Thread nD τ) Set.univ (sm k) n K)
    {k' : PUnit → Prog (TpuEff nD τ sig (Elt F) Λ₀ .tc) α} :
    iprop(records m κ ∗ cred (tallyAt (cell k c) () (amt k)) ∗ (∃ W, owes (c : Thread nD τ) (0 : CellTallies nD τ sig Unit) W)
        ∗ atPos EX (cell k c) 0 ∅ 0)
      ⊢ iprop((((∃ W, owes (c : Thread nD τ) (0 : CellTallies nD τ sig Unit) W) ∗ atPos EX (cell k c) (0 + 1) ∅ 0 ∗ pay m k c) -∗ run c (k' ⟨⟩) Q)
        -∗ run c (.op w k') Q) := by
  iintro ⟨#HR, Hc, ⟨%W, HO⟩, Hat⟩
  iapply (await m κ c k hn hw)
  isplitr; · iexact HR
  isplitl [Hc]; · iexact Hc
  isplitl [HO]; · iexact HO
  isplitr; · rw [MayWait_zero]; iempintro
  iexact Hat

/-- A cell past its one round is closed, its counter back at zero. -/
theorem close (k : Fin 7) : iprop(records m κ ∗ atPos EX (cell k c) (0 + 1) ∅ 0) ⊢ (|={Set.univ}=> semVal (cell k c) 0 : sProp 𝕄) := by
  iintro ⟨#HR, Hat⟩
  iapply (Rounds.cell_close EX (plan m) (Set.mem_univ (κ (cell k c))) id (duties_later m (cell k c)))
  isplitr; · iapply (inv_at m κ k c) $$ HR
  iexact Hat

end Talk

end Cert.KernelIdeal.Pair

end
-- ==== Proof.Talk.lean ====
/-
  The body of the first kernel, part by part.
-/
module

public import proofs.«01_k».proof.Proof.Steps

@[expose] public section

noncomputable section

namespace Cert.KernelIdeal.Pair

open Cert.KernelIdeal Cert.KernelIdeal.Gen Cert.Sheets
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Which semaphores the two arrays name: sends first, then receives. -/
theorem snd_0 : SemLoc.dma (cc0_scratch4.slice (Rect.unit (s := S3) ![0] S1.size inb_S3_S1_0) |>.squeeze S_ squeezes_S1_S_).sem = sm 1 := by decide
/-- The first receive semaphore. -/
theorem rcv_0 : SemLoc.dma (cc0_scratch5.slice (Rect.unit (s := S3) ![0] S1.size inb_S3_S1_0) |>.squeeze S_ squeezes_S1_S_).sem = sm 4 := by decide
/-- The second send semaphore. -/
theorem snd_1 : SemLoc.dma (cc0_scratch4.slice (Rect.unit (s := S3) ![1] S1.size inb_S3_S1_1) |>.squeeze S_ squeezes_S1_S_).sem = sm 2 := by decide
/-- The second receive semaphore. -/
theorem rcv_1 : SemLoc.dma (cc0_scratch5.slice (Rect.unit (s := S3) ![1] S1.size inb_S3_S1_1) |>.squeeze S_ squeezes_S1_S_).sem = sm 5 := by decide
/-- The third send semaphore. -/
theorem snd_2 : SemLoc.dma (cc0_scratch4.slice (Rect.unit (s := S3) ![2] S1.size inb_S3_S1_2) |>.squeeze S_ squeezes_S1_S_).sem = sm 3 := by decide
/-- The third receive semaphore. -/
theorem rcv_2 : SemLoc.dma (cc0_scratch5.slice (Rect.unit (s := S3) ![2] S1.size inb_S3_S1_2) |>.squeeze S_ squeezes_S1_S_).sem = sm 6 := by decide

variable (m : (ℓ : Loc nD τ sig) → Buf (Elt F) ℓ) (κ : GSem nD τ sig → ℕ) (c : Dev nD)

/-- The barrier is signalled and waited on; the first half of the compressed activations is written. -/
theorem part1_spec {Q : _ → sProp 𝕄} {X : Vec F S2x512x2048 .f32} {D : Vec F S2048x128 .f32} {f : Vec F S1024x128 .f32} {W : Waits sig Unit} :
    iprop(records m κ ∗ levAts L lv ∗ pt c cc0_stg0_0 fullShare X ∗ pt c cc0_stg1_0 fullShare D ∗ pt c cc0_scratch0 fullShare f
        ∗ (someOf c cc0_scratch1 ∗ someOf c cc0_scratch2 ∗ someOf c cc0_scratch3)
        ∗ (reached EX (cell 4 c) 0 ∗ reached EX (cell 5 c) 0 ∗ reached EX (cell 6 c) 0)
        ∗ owes (c : Thread nD τ) (due c) W ∗ dutyTok EX (cell 0 (mate c)) 0 () ∗ cred (tallyAt (cell 0 c) () (amt 0)) ∗ atPos EX (cell 0 c) 0 ∅ 0)
      ⊢ iprop((∀ v5 v8 v9, (pt c cc0_stg0_0 fullShare X ∗ pt c cc0_stg1_0 fullShare D
          ∗ pt c cc0_scratch0 fullShare (VecWindow.put f ![0, 0] S512x128.size (k0_pay3 (batch0 X) D) : Vec F S1024x128 .f32)
          ∗ (∃ W', owes (c : Thread nD τ) (dueCopies c) W') ∗ atPos EX (cell 0 c) (0 + 1) ∅ 0 ∗ pay m 0 c)
            -∗ Q ⟨c, v5, v8, v9, k0_pay4 (batch1 X), k0_pay5 D⟩)
        -∗ run c (k0_part1 (Memref.whole cc0_stg0_0) (Memref.isWhole_whole _) (Memref.whole cc0_stg1_0) (Memref.isWhole_whole _)
          (Memref.whole cc0_stg2_0) (Memref.isWhole_whole _) (Memref.whole cc0_stg3_0) (Memref.isWhole_whole _)
          (Memref.whole cc0_stg4_0) (Memref.isWhole_whole _) (Memref.whole cc0_stg5_0) (Memref.isWhole_whole _)
          (Memref.whole cc0_stg6_0) (Memref.isWhole_whole _) (Memref.whole cc0_stg7_0) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          cc0_scratch4 cc0_scratch5) Q) := by
  rw [k0_part1_eq_skeleton]
  unfold k0_part1_skel
  simp only [semSignalWord, semWaitWord, Prog.lift, Prog.bind_op, Prog.bind_ret, Prog.pure_eq_ret, Prog.bind_assoc, wp_deviceId]
  rw [dev1_eq]
  iintro ⟨#HR, #HL, Hx, Hd, Hs, Hl, Hr, HO, Ht, Hc, Hat⟩ Hk
  iapply (Rounds.wp_signal 𝒱₀ EX (plan m) (c : Thread nD τ) none (κ := κ (cell 0 (mate c))) (d := ()) (r := 0)
    (duty_mem m 0 (mate c)) (amount_cell m 0 (mate c) ()) () (dueCopies c) rfl) $$ [HO Ht Hl Hr]
  · isplitr; · iapply (inv_at m κ 0 (mate c)) $$ HR
    isplitl [HO]; · iexact HO
    isplitl [Ht]; · iexact Ht
    isplitl [Hl Hr]
    · have e : (plan (F := F) m).payload ((mate c : Thread nD τ), SemLoc.reg barrier0) 0 () = pay m 0 (mate c) := payload_cell m 0 (mate c) ()
      rw [e]
      dsimp only [pay]
      rw [mate_mate]
      isplitl [Hl]; · iexact Hl
      iexact Hr
    iapply (bar_reached m κ (mate c)) $$ HR
  iintro HO
  iapply (await m κ c 0 (n := 1) rfl (w := .semWait barrier0 1) (wpE_semWait_eq 𝒱₀ (c : Thread nD τ) none Set.univ)) $$ [Hc HO Hat]
  · isplitr; · iexact HR
    isplitl [Hc]; · iexact Hc
    isplitl [HO]; · iexact HO
    isplitr; · iapply (mayWait_barrier c) $$ HL
    iexact Hat
  iintro ⟨HO, Hat, Hp⟩
  iapply (load_part c) $$ Hx; iintro Hx
  iapply (load_all c) $$ Hd; iintro Hd
  iapply (load_part c) $$ Hs; iintro Hs
  iapply (store_part c) $$ Hs; iintro Hs
  iapply (load_part c) $$ Hx; iintro Hx
  iapply (load_all c) $$ Hd; iintro Hd
  iapply (run_ret c)
  iapply Hk
  isplitl [Hx]; · iexact Hx
  isplitl [Hd]; · iexact Hd
  isplitl [Hs]; · iexact Hs
  isplitl [HO]; · iexact HO
  isplitl [Hat] <;> iassumption

/-- Both halves are in place and the three copies go out; a share of each source stays for reading. -/
theorem part2_spec {Q : _ → sProp 𝕄} {f : Vec F S1024x128 .f32} {W : Waits sig Unit} (v5 v8 v9 : BitVec 32) :
    iprop(records m κ ∗ pt c cc0_scratch0 fullShare (VecWindow.put f ![0, 0] S512x128.size (k0_pay3 (batch0 (argX m c)) (argD m c)) : Vec F S1024x128 .f32)
        ∗ pt c cc0_stg2_0 fullShare (argK m c) ∗ pt c cc0_stg3_0 fullShare (argV m c) ∗ pay m 0 c
        ∗ (reached EX (cell 1 c) 0 ∗ reached EX (cell 2 c) 0 ∗ reached EX (cell 3 c) 0)
        ∗ owes (c : Thread nD τ) (dueCopies c) W
        ∗ (dutyTok EX (cell 1 c) 0 () ∗ dutyTok EX (cell 2 c) 0 () ∗ dutyTok EX (cell 3 c) 0 ())
        ∗ (dutyTok EX (cell 4 (mate c)) 0 () ∗ dutyTok EX (cell 5 (mate c)) 0 () ∗ dutyTok EX (cell 6 (mate c)) 0 ()))
      ⊢ iprop(((pt c cc0_scratch0 fullShare.right (cAt m c) ∗ pt c cc0_stg2_0 fullShare.right (argK m c) ∗ pt c cc0_stg3_0 fullShare.right (argV m c)
          ∗ (∃ W', owes (c : Thread nD τ) (0 : CellTallies nD τ sig Unit) W')
          ∗ cred (tallyAt (cell 1 c) () (amt 1)) ∗ cred (tallyAt (cell 2 c) () (amt 2)) ∗ cred (tallyAt (cell 3 c) () (amt 3)))
            -∗ Q ⟨⟩)
        -∗ run c (k0_part2 (Memref.whole cc0_stg0_0) (Memref.isWhole_whole _) (Memref.whole cc0_stg1_0) (Memref.isWhole_whole _)
          (Memref.whole cc0_stg2_0) (Memref.isWhole_whole _) (Memref.whole cc0_stg3_0) (Memref.isWhole_whole _)
          (Memref.whole cc0_stg4_0) (Memref.isWhole_whole _) (Memref.whole cc0_stg5_0) (Memref.isWhole_whole _)
          (Memref.whole cc0_stg6_0) (Memref.isWhole_whole _) (Memref.whole cc0_stg7_0) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          cc0_scratch4 cc0_scratch5 c v5 v8 v9 (k0_pay4 (batch1 (argX m c))) (k0_pay5 (argD m c))) Q) := by
  rw [k0_part2_eq_skeleton]
  unfold k0_part2_skel
  simp only [Prog.lift, Prog.bind_op, Prog.bind_ret, Prog.pure_eq_ret, Prog.bind_assoc]
  iintro ⟨#HR, Hs, H2, H3, Hp, ⟨Hr1, Hr2, Hr3⟩, HO, ⟨Ht1, Ht2, Ht3⟩, ⟨Ht4, Ht5, Ht6⟩⟩ Hk
  dsimp only [pay]
  icases Hp with ⟨⟨⟨%g1, Hg1⟩, ⟨%g2, Hg2⟩, ⟨%g3, Hg3⟩⟩, Hr4, Hr5, Hr6⟩
  iapply (load_part c) $$ Hs; iintro Hs
  iapply (store_part c) $$ Hs; iintro Hs
  have ec : VecWindow.put (VecWindow.put f ![0, 0] S512x128.size (k0_pay3 (batch0 (argX m c)) (argD m c))) ![512, 0] S512x128.size
      (k0_pay6 (k0_pay4 (batch1 (argX m c))) (k0_pay5 (argD m c))) = cAt m c := put_rows f _ _
  ihave Hs := (Entails.of_eq (congrArg (pt c cc0_scratch0 fullShare) ec)) $$ Hs
  ihave Hs := (pointsTo_share (PosShare.mem_left_op_right fullShare)).1 $$ Hs
  icases Hs with ⟨Hs, Hs'⟩
  ihave H2 := (pointsTo_share (PosShare.mem_left_op_right fullShare)).1 $$ H2
  icases H2 with ⟨H2, H2'⟩
  ihave H3 := (pointsTo_share (PosShare.mem_left_op_right fullShare)).1 $$ H3
  icases H3 with ⟨H3, H3'⟩
  iapply (ship m κ c (dev2_eq c) (src := Memref.whole cc0_scratch0) (dst := Memref.whole cc0_scratch1) snd_0 rcv_0 rfl (View.set_whole _) (View.set_whole _) rfl
    (q := fullShare.left) (fs := cAt m c) (fd := g1) (O := dueAt 6 c + dueAt 5 c) (W := W)
    (by dsimp only [pay]; exact BI.Entails.refl _)
    (by dsimp only [pay]; rw [View.write_whole_univ, View.read_whole, mate_mate])) $$ [Hs Hg1 HO Ht1 Hr1 Ht4 Hr4]
  · isplitr; · iexact HR
    isplitl [Hs]; · iexact Hs
    isplitl [Hg1]; · iexact Hg1
    isplitl [HO]; · iexact HO
    isplitl [Ht1]; · iexact Ht1
    isplitl [Hr1]; · iexact Hr1
    isplitl [Ht4] <;> iassumption
  iintro ⟨Hc1, HO⟩
  iapply (ship m κ c (dev3_eq c) (src := Memref.whole cc0_stg2_0) (dst := Memref.whole cc0_scratch2) snd_1 rcv_1 rfl (View.set_whole _) (View.set_whole _) rfl
    (q := fullShare.left) (fs := argK m c) (fd := g2) (O := dueAt 6 c) (W := W)
    (by dsimp only [pay]; exact BI.Entails.refl _)
    (by dsimp only [pay]; rw [View.write_whole_univ, View.read_whole, mate_mate])) $$ [H2 Hg2 HO Ht2 Hr2 Ht5 Hr5]
  · isplitr; · iexact HR
    isplitl [H2]; · iexact H2
    isplitl [Hg2]; · iexact Hg2
    isplitl [HO]; · iexact HO
    isplitl [Ht2]; · iexact Ht2
    isplitl [Hr2]; · iexact Hr2
    isplitl [Ht5] <;> iassumption
  iintro ⟨Hc2, HO⟩
  iapply (ship m κ c (dev4_eq c) (src := Memref.whole cc0_stg3_0) (dst := Memref.whole cc0_scratch3) snd_2 rcv_2 rfl (View.set_whole _) (View.set_whole _) rfl
    (q := fullShare.left) (fs := argV m c) (fd := g3) (O := 0) (W := W)
    (by dsimp only [pay]; exact BI.Entails.refl _)
    (by dsimp only [pay]; rw [View.write_whole_univ, View.read_whole, mate_mate])) $$ [H3 Hg3 HO Ht3 Hr3 Ht6 Hr6]
  · isplitr; · iexact HR
    isplitl [H3]; · iexact H3
    isplitl [Hg3]; · iexact Hg3
    isplitl [HO]; · rw [zero_add]; iexact HO
    isplitl [Ht3]; · iexact Ht3
    isplitl [Hr3]; · iexact Hr3
    isplitl [Ht6] <;> iassumption
  iintro ⟨Hc3, HO⟩
  iapply (run_ret c)
  iapply Hk
  isplitl [Hs']; · iexact Hs'
  isplitl [H2']; · iexact H2'
  isplitl [H3']; · iexact H3'
  isplitl [HO]; · iexists _; iexact HO
  isplitl [Hc1]; · iexact Hc1
  isplitl [Hc2] <;> iassumption

/-- The column blocks after the partner's part is added to block `k`. -/
abbrev acc (w : Fin 4 → Vec F S1024x512 .f32) (k : Fin 4) (c' : Vec F S1024x128 .f32) (x : Vec F S128x512 .f32) : Fin 4 → Vec F S1024x512 .f32 :=
  Function.update w k (k0_pay17 (w k) c' x)

/-- A buffer's contents replaced by equal ones. -/
theorem turn {b : Ref sig .tc} {q : PosShare TreeShare} {f g : Buf (Elt F) ((c : Thread nD τ).loc b)} (h : f = g) : (pt c b q f : sProp 𝕄) ⊢ pt c b q g :=
  Entails.of_eq (congrArg (pt c b q) h)

/-- Storing block `k` of the device's own part. -/
theorem put_own (w : Fin 4 → Vec F S1024x512 .f32) (k : Fin 4) (off : Fin 2 → ℕ) (ho : off = ![0, 512 * k.val]) {u u' : Vec F S1024x512 .f32} (hu : u = u') :
    (VecWindow.put (cols w) off S1024x512.size u : Vec F S1024x2048 .f32) = cols (Function.update w k u') := hu ▸ put_cols w k off ho u
/-- Adding the partner's part to block `k`. -/
theorem put_acc (w : Fin 4 → Vec F S1024x512 .f32) (k : Fin 4) (off : Fin 2 → ℕ) (ho : off = ![0, 512 * k.val])
    (inb : ∀ a, off a + S1024x512.size a ≤ S1024x2048.size a) {u : Vec F S1024x512 .f32} {c' : Vec F S1024x128 .f32} {x : Vec F S128x512 .f32}
    (hu : u = k0_pay17 (VecWindow.window (cols w : Vec F S1024x2048 .f32) off S1024x512.size inb) c' x) :
    (VecWindow.put (cols w) off S1024x512.size u : Vec F S1024x2048 .f32) = cols (acc w k c' x) :=
  put_own w k off ho (hu.trans (congrArg (fun v => k0_pay17 v c' x) (window_cols w k off ho inb)))

/-- The first two column blocks of the own part of keys and values. -/
theorem part3_spec {Q : _ → sProp 𝕄} {C : Vec F S1024x128 .f32} {wk wv : Vec F S128x2048 .f32} {K V : Fin 4 → Vec F S1024x512 .f32} {q : PosShare TreeShare} :
    iprop(pt c cc0_scratch0 q C ∗ pt c cc0_stg2_0 q wk ∗ pt c cc0_stg3_0 q wv
        ∗ pt c cc0_stg5_0 fullShare (cols K : Vec F S1024x2048 .f32) ∗ pt c cc0_stg6_0 fullShare (cols V : Vec F S1024x2048 .f32))
      ⊢ iprop(((pt c cc0_scratch0 q C ∗ pt c cc0_stg2_0 q wk ∗ pt c cc0_stg3_0 q wv
          ∗ pt c cc0_stg5_0 fullShare (cols (Function.update (Function.update K 0 (k0_pay7 C (chunk0 wk))) 1 (k0_pay7 C (chunk1 wk))) : Vec F S1024x2048 .f32)
          ∗ pt c cc0_stg6_0 fullShare (cols (Function.update (Function.update V 0 (k0_pay7 C (chunk0 wv))) 1 (k0_pay7 C (chunk1 wv))) : Vec F S1024x2048 .f32))
            -∗ Q (k0_pay11 C (chunk2 wk)))
        -∗ run c (k0_part3 (Memref.whole cc0_stg0_0) (Memref.isWhole_whole _) (Memref.whole cc0_stg1_0) (Memref.isWhole_whole _)
          (Memref.whole cc0_stg2_0) (Memref.isWhole_whole _) (Memref.whole cc0_stg3_0) (Memref.isWhole_whole _)
          (Memref.whole cc0_stg4_0) (Memref.isWhole_whole _) (Memref.whole cc0_stg5_0) (Memref.isWhole_whole _)
          (Memref.whole cc0_stg6_0) (Memref.isWhole_whole _) (Memref.whole cc0_stg7_0) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          cc0_scratch4 cc0_scratch5) Q) := by
  rw [k0_part3_eq_skeleton]
  unfold k0_part3_skel
  simp only [Prog.lift, Prog.bind_op, Prog.bind_ret, Prog.pure_eq_ret, Prog.bind_assoc]
  iintro ⟨Hc, H2, H3, HK, HV⟩ Hk
  iapply (load_all c) $$ Hc; iintro Hc
  iapply (load_part c) $$ H2; iintro H2
  iapply (load_part c) $$ HK; iintro HK
  iapply (store_part c) $$ HK; iintro HK
  ihave HK := (turn c (b := cc0_stg5_0) (put_own _ 0 ![0, 0] rfl (u := k0_pay7 C _) (u' := k0_pay7 C _) rfl)) $$ HK
  iapply (load_all c) $$ Hc; iintro Hc
  iapply (load_part c) $$ H3; iintro H3
  iapply (load_part c) $$ HV; iintro HV
  iapply (store_part c) $$ HV; iintro HV
  ihave HV := (turn c (b := cc0_stg6_0) (put_own _ 0 ![0, 0] rfl (u := k0_pay8 C _) (u' := k0_pay7 C _) rfl)) $$ HV
  iapply (load_all c) $$ Hc; iintro Hc
  iapply (load_part c) $$ H2; iintro H2
  iapply (load_part c) $$ HK; iintro HK
  iapply (store_part c) $$ HK; iintro HK
  ihave HK := (turn c (b := cc0_stg5_0) (put_own _ 1 ![0, 512] rfl (u := k0_pay9 C _) (u' := k0_pay7 C _) rfl)) $$ HK
  iapply (load_all c) $$ Hc; iintro Hc
  iapply (load_part c) $$ H3; iintro H3
  iapply (load_part c) $$ HV; iintro HV
  iapply (store_part c) $$ HV; iintro HV
  ihave HV := (turn c (b := cc0_stg6_0) (put_own _ 1 ![0, 512] rfl (u := k0_pay10 C _) (u' := k0_pay7 C _) rfl)) $$ HV
  iapply (load_all c) $$ Hc; iintro Hc
  iapply (load_part c) $$ H2; iintro H2
  iapply (run_ret c)
  iapply Hk
  isplitl [Hc]; · iexact Hc
  isplitl [H2]; · iexact H2
  isplitl [H3]; · iexact H3
  isplitl [HK] <;> iassumption

/-- The other two column blocks, and the first half of the rotary keys. -/
theorem part4_spec {Q : _ → sProp 𝕄} {X : Vec F S2x512x2048 .f32} {R : Vec F S2048x32 .f32} {r : Vec F S1024x32 .f32} {C : Vec F S1024x128 .f32} {wk wv : Vec F S128x2048 .f32}
    {K V : Fin 4 → Vec F S1024x512 .f32} {q : PosShare TreeShare} :
    iprop(pt c cc0_scratch0 q C ∗ pt c cc0_stg2_0 q wk ∗ pt c cc0_stg3_0 q wv
        ∗ pt c cc0_stg5_0 fullShare (cols K : Vec F S1024x2048 .f32) ∗ pt c cc0_stg6_0 fullShare (cols V : Vec F S1024x2048 .f32)
        ∗ pt c cc0_stg0_0 fullShare X ∗ pt c cc0_stg4_0 fullShare R ∗ pt c cc0_stg7_0 fullShare r)
      ⊢ iprop(((pt c cc0_scratch0 q C ∗ pt c cc0_stg2_0 q wk ∗ pt c cc0_stg3_0 q wv
          ∗ pt c cc0_stg5_0 fullShare (cols (Function.update (Function.update K 2 (k0_pay7 C (chunk2 wk))) 3 (k0_pay7 C (chunk3 wk))) : Vec F S1024x2048 .f32)
          ∗ pt c cc0_stg6_0 fullShare (cols (Function.update (Function.update V 2 (k0_pay7 C (chunk2 wv))) 3 (k0_pay7 C (chunk3 wv))) : Vec F S1024x2048 .f32)
          ∗ pt c cc0_stg0_0 fullShare X ∗ pt c cc0_stg4_0 fullShare R
          ∗ pt c cc0_stg7_0 fullShare (VecWindow.put r ![0, 0] S512x32.size (k0_pay15 (batch0 X) R) : Vec F S1024x32 .f32))
            -∗ Q ⟨⟩)
        -∗ run c (k0_part4 (Memref.whole cc0_stg0_0) (Memref.isWhole_whole _) (Memref.whole cc0_stg1_0) (Memref.isWhole_whole _)
          (Memref.whole cc0_stg2_0) (Memref.isWhole_whole _) (Memref.whole cc0_stg3_0) (Memref.isWhole_whole _)
          (Memref.whole cc0_stg4_0) (Memref.isWhole_whole _) (Memref.whole cc0_stg5_0) (Memref.isWhole_whole _)
          (Memref.whole cc0_stg6_0) (Memref.isWhole_whole _) (Memref.whole cc0_stg7_0) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          cc0_scratch4 cc0_scratch5 (k0_pay11 C (chunk2 wk))) Q) := by
  rw [k0_part4_eq_skeleton]
  unfold k0_part4_skel
  simp only [Prog.lift, Prog.bind_op, Prog.bind_ret, Prog.pure_eq_ret, Prog.bind_assoc]
  iintro ⟨Hc, H2, H3, HK, HV, Hx, H4, H7⟩ Hk
  iapply (load_part c) $$ HK; iintro HK
  iapply (store_part c) $$ HK; iintro HK
  ihave HK := (turn c (b := cc0_stg5_0) (put_own _ 2 ![0, 1024] rfl (u := k0_pay11 C _) (u' := k0_pay7 C _) rfl)) $$ HK
  iapply (load_all c) $$ Hc; iintro Hc
  iapply (load_part c) $$ H3; iintro H3
  iapply (load_part c) $$ HV; iintro HV
  iapply (store_part c) $$ HV; iintro HV
  ihave HV := (turn c (b := cc0_stg6_0) (put_own _ 2 ![0, 1024] rfl (u := k0_pay12 C _) (u' := k0_pay7 C _) rfl)) $$ HV
  iapply (load_all c) $$ Hc; iintro Hc
  iapply (load_part c) $$ H2; iintro H2
  iapply (load_part c) $$ HK; iintro HK
  iapply (store_part c) $$ HK; iintro HK
  ihave HK := (turn c (b := cc0_stg5_0) (put_own _ 3 ![0, 1536] rfl (u := k0_pay13 C _) (u' := k0_pay7 C _) rfl)) $$ HK
  iapply (load_all c) $$ Hc; iintro Hc
  iapply (load_part c) $$ H3; iintro H3
  iapply (load_part c) $$ HV; iintro HV
  iapply (store_part c) $$ HV; iintro HV
  ihave HV := (turn c (b := cc0_stg6_0) (put_own _ 3 ![0, 1536] rfl (u := k0_pay14 C _) (u' := k0_pay7 C _) rfl)) $$ HV
  iapply (load_part c) $$ Hx; iintro Hx
  iapply (load_all c) $$ H4; iintro H4
  iapply (load_part c) $$ H7; iintro H7
  iapply (store_part c) $$ H7; iintro H7
  iapply (run_ret c)
  iapply Hk
  isplitl [Hc]; · iexact Hc
  isplitl [H2]; · iexact H2
  isplitl [H3]; · iexact H3
  isplitl [HK]; · iexact HK
  isplitl [HV]; · iexact HV
  isplitl [Hx]; · iexact Hx
  isplitl [H4] <;> iassumption

/-- What a wait on a copy's semaphore asks for. -/
theorem wait_at {k : Fin 7} {s : DmaSem sig} (h : SemLoc.dma s = sm k) {sh : Shape} {e : EltTy} {src dst : Memref sig .tc .vmem sh e}
    {hs : src.view.WordExact} {hd : dst.view.WordExact} (K : PUnit → sProp 𝕄) :
    wpE (defs₀ (F := F)) 𝒱₀ (c : Thread nD τ) none Set.univ (.waitDma2 s src dst hs hd) K
      = waitSpec (c : Thread nD τ) Set.univ (sm k) dst.view.dmaCredit K := by
  rw [← h]; exact wpE_waitDma2_eq 𝒱₀ (c : Thread nD τ) none Set.univ K

/-- A wait on a copy's semaphore while nothing is owed. -/
theorem await_copy {α : Type} {Q : α → sProp 𝕄} {k : Fin 7} {s : DmaSem sig} {sh : Shape} {e : EltTy} {src dst : Memref sig .tc .vmem sh e}
    (h : SemLoc.dma s = sm k) (hn : dst.view.dmaCredit = amt k) {hs : src.view.WordExact} {hd : dst.view.WordExact}
    {k' : PUnit → Prog (TpuEff nD τ sig (Elt F) Λ₀ .tc) α} :
    iprop(records m κ ∗ cred (tallyAt (cell k c) () (amt k)) ∗ (∃ W, owes (c : Thread nD τ) (0 : CellTallies nD τ sig Unit) W)
        ∗ atPos EX (cell k c) 0 ∅ 0)
      ⊢ iprop((((∃ W, owes (c : Thread nD τ) (0 : CellTallies nD τ sig Unit) W) ∗ atPos EX (cell k c) (0 + 1) ∅ 0 ∗ pay m k c) -∗ run c (k' ⟨⟩) Q)
        -∗ run c (.op (.waitDma2 s src dst hs hd) k') Q) :=
  await_free m κ c k hn (wait_at c h)

/-- The second half of the rotary keys; the first two copies, both ways, have ended. -/
theorem part5_spec {Q : _ → sProp 𝕄} {X : Vec F S2x512x2048 .f32} {R : Vec F S2048x32 .f32} {r : Vec F S1024x32 .f32} {a : Vec F S512x32 .f32} (v5 v8 v9 : BitVec 32) :
    iprop(records m κ ∗ pt c cc0_stg0_0 fullShare X ∗ pt c cc0_stg4_0 fullShare R
        ∗ pt c cc0_stg7_0 fullShare (VecWindow.put r ![0, 0] S512x32.size a : Vec F S1024x32 .f32)
        ∗ (∃ W, owes (c : Thread nD τ) (0 : CellTallies nD τ sig Unit) W)
        ∗ cred (tallyAt (cell 1 c) () (amt 1)) ∗ atPos EX (cell 1 c) 0 ∅ 0
        ∗ cred (tallyAt (cell 4 c) () (amt 4)) ∗ atPos EX (cell 4 c) 0 ∅ 0
        ∗ cred (tallyAt (cell 2 c) () (amt 2)) ∗ atPos EX (cell 2 c) 0 ∅ 0
        ∗ cred (tallyAt (cell 5 c) () (amt 5)) ∗ atPos EX (cell 5 c) 0 ∅ 0)
      ⊢ iprop(((pt c cc0_stg0_0 fullShare X ∗ pt c cc0_stg4_0 fullShare R
          ∗ pt c cc0_stg7_0 fullShare (rows ![a, k0_pay16 (batch1 X) R] : Vec F S1024x32 .f32)
          ∗ (∃ W, owes (c : Thread nD τ) (0 : CellTallies nD τ sig Unit) W)
          ∗ atPos EX (cell 1 c) (0 + 1) ∅ 0 ∗ pay m 1 c
          ∗ atPos EX (cell 4 c) (0 + 1) ∅ 0 ∗ pay m 4 c
          ∗ atPos EX (cell 2 c) (0 + 1) ∅ 0 ∗ pay m 2 c
          ∗ atPos EX (cell 5 c) (0 + 1) ∅ 0 ∗ pay m 5 c)
            -∗ Q ⟨⟩)
        -∗ run c (k0_part5 (Memref.whole cc0_stg0_0) (Memref.isWhole_whole _) (Memref.whole cc0_stg1_0) (Memref.isWhole_whole _)
          (Memref.whole cc0_stg2_0) (Memref.isWhole_whole _) (Memref.whole cc0_stg3_0) (Memref.isWhole_whole _)
          (Memref.whole cc0_stg4_0) (Memref.isWhole_whole _) (Memref.whole cc0_stg5_0) (Memref.isWhole_whole _)
          (Memref.whole cc0_stg6_0) (Memref.isWhole_whole _) (Memref.whole cc0_stg7_0) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          cc0_scratch4 cc0_scratch5 v5 v8 v9) Q) := by
  rw [k0_part5_eq_skeleton]
  unfold k0_part5_skel
  simp only [Prog.lift, Prog.bind_op, Prog.bind_ret, Prog.pure_eq_ret, Prog.bind_assoc]
  iintro ⟨#HR, Hx, H4, H7, HO, Hc1, Ha1, Hc4, Ha4, Hc2, Ha2, Hc5, Ha5⟩ Hk
  iapply (load_part c) $$ Hx; iintro Hx
  iapply (load_all c) $$ H4; iintro H4
  iapply (load_part c) $$ H7; iintro H7
  iapply (store_part c) $$ H7; iintro H7
  ihave H7 := (turn c (b := cc0_stg7_0) (put_rows r a (k0_pay16 (batch1 X) R))) $$ H7
  iapply (await_copy m κ c (src := Memref.whole cc0_scratch1) (dst := Memref.whole cc0_scratch0) snd_0 rfl) $$ [HO Hc1 Ha1]
  · isplitr; · iexact HR
    isplitl [Hc1]; · iexact Hc1
    isplitl [HO] <;> iassumption
  iintro ⟨HO, Ha1, Hp1⟩
  iapply (await_copy m κ c (src := Memref.whole cc0_scratch0) (dst := Memref.whole cc0_scratch1) rcv_0 rfl) $$ [HO Hc4 Ha4]
  · isplitr; · iexact HR
    isplitl [Hc4]; · iexact Hc4
    isplitl [HO] <;> iassumption
  iintro ⟨HO, Ha4, Hp4⟩
  iapply (await_copy m κ c (src := Memref.whole cc0_scratch2) (dst := Memref.whole cc0_stg2_0) snd_1 rfl) $$ [HO Hc2 Ha2]
  · isplitr; · iexact HR
    isplitl [Hc2]; · iexact Hc2
    isplitl [HO] <;> iassumption
  iintro ⟨HO, Ha2, Hp2⟩
  iapply (await_copy m κ c (src := Memref.whole cc0_stg2_0) (dst := Memref.whole cc0_scratch2) rcv_1 rfl) $$ [HO Hc5 Ha5]
  · isplitr; · iexact HR
    isplitl [Hc5]; · iexact Hc5
    isplitl [HO] <;> iassumption
  iintro ⟨HO, Ha5, Hp5⟩
  iapply (run_ret c)
  iapply Hk
  isplitl [Hx]; · iexact Hx
  isplitl [H4]; · iexact H4
  isplitl [H7]; · iexact H7
  isplitl [HO]; · iexact HO
  isplitl [Ha1]; · iexact Ha1
  isplitl [Hp1]; · iexact Hp1
  isplitl [Ha4]; · iexact Ha4
  isplitl [Hp4]; · iexact Hp4
  isplitl [Ha2]; · iexact Ha2
  isplitl [Hp2]; · iexact Hp2
  isplitl [Ha5] <;> iassumption

/-- The last copy has ended, both ways; the partner's part is added to the first column block. -/
theorem part6_spec {Q : _ → sProp 𝕄} {C : Vec F S1024x128 .f32} {wk : Vec F S128x2048 .f32} {K V : Fin 4 → Vec F S1024x512 .f32} (v5 v8 v9 : BitVec 32) :
    iprop(records m κ ∗ pt c cc0_stg5_0 fullShare (cols K : Vec F S1024x2048 .f32) ∗ pt c cc0_stg6_0 fullShare (cols V : Vec F S1024x2048 .f32)
        ∗ pt c cc0_scratch1 fullShare C ∗ pt c cc0_scratch2 fullShare wk
        ∗ (∃ W, owes (c : Thread nD τ) (0 : CellTallies nD τ sig Unit) W)
        ∗ cred (tallyAt (cell 3 c) () (amt 3)) ∗ atPos EX (cell 3 c) 0 ∅ 0
        ∗ cred (tallyAt (cell 6 c) () (amt 6)) ∗ atPos EX (cell 6 c) 0 ∅ 0)
      ⊢ iprop(((pt c cc0_stg5_0 fullShare (cols (acc K 0 C (chunk0 wk)) : Vec F S1024x2048 .f32) ∗ pt c cc0_stg6_0 fullShare (cols (acc V 0 C (chunk0 (argV m (mate c)))) : Vec F S1024x2048 .f32)
          ∗ pt c cc0_scratch1 fullShare C ∗ pt c cc0_scratch2 fullShare wk
          ∗ (∃ W, owes (c : Thread nD τ) (0 : CellTallies nD τ sig Unit) W)
          ∗ atPos EX (cell 3 c) (0 + 1) ∅ 0 ∗ pay m 3 c
          ∗ atPos EX (cell 6 c) (0 + 1) ∅ 0 ∗ pay m 6 c)
            -∗ Q ⟨k0_pay19 (VecWindow.window (cols (acc K 0 C (chunk0 wk)) : Vec F S1024x2048 .f32) ![0, 512] S1024x512.size inb_S1024x2048_S1024x512_0_512), C, chunk1 wk⟩)
        -∗ run c (k0_part6 (Memref.whole cc0_stg0_0) (Memref.isWhole_whole _) (Memref.whole cc0_stg1_0) (Memref.isWhole_whole _)
          (Memref.whole cc0_stg2_0) (Memref.isWhole_whole _) (Memref.whole cc0_stg3_0) (Memref.isWhole_whole _)
          (Memref.whole cc0_stg4_0) (Memref.isWhole_whole _) (Memref.whole cc0_stg5_0) (Memref.isWhole_whole _)
          (Memref.whole cc0_stg6_0) (Memref.isWhole_whole _) (Memref.whole cc0_stg7_0) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          cc0_scratch4 cc0_scratch5 v5 v8 v9) Q) := by
  rw [k0_part6_eq_skeleton]
  unfold k0_part6_skel
  simp only [Prog.lift, Prog.bind_op, Prog.bind_ret, Prog.pure_eq_ret, Prog.bind_assoc]
  iintro ⟨#HR, HK, HV, Hc, Hk', HO, Hc3, Ha3, Hc6, Ha6⟩ Hk
  iapply (await_copy m κ c (src := Memref.whole cc0_scratch3) (dst := Memref.whole cc0_stg3_0) snd_2 rfl) $$ [HO Hc3 Ha3]
  · isplitr; · iexact HR
    isplitl [Hc3]; · iexact Hc3
    isplitl [HO] <;> iassumption
  iintro ⟨HO, Ha3, Hp3⟩
  iapply (await_copy m κ c (src := Memref.whole cc0_stg3_0) (dst := Memref.whole cc0_scratch3) rcv_2 rfl) $$ [HO Hc6 Ha6]
  · isplitr; · iexact HR
    isplitl [Hc6]; · iexact Hc6
    isplitl [HO] <;> iassumption
  iintro ⟨HO, Ha6, Hp6⟩
  dsimp only [pay]
  iapply (load_part c) $$ HK; iintro HK
  iapply (load_all c) $$ Hc; iintro Hc
  iapply (load_part c) $$ Hk'; iintro Hk'
  iapply (load_part c) $$ HK; iintro HK
  iapply (store_part c) $$ HK; iintro HK
  ihave HK := (turn c (b := cc0_stg5_0) (put_acc _ 0 ![0, 0] rfl inb_S1024x2048_S1024x512_0_0 (u := k0_pay17 _ C _) (c' := C) rfl)) $$ HK
  iapply (load_part c) $$ HV; iintro HV
  iapply (load_all c) $$ Hc; iintro Hc
  iapply (load_part c) $$ Hp6; iintro Hp6
  iapply (load_part c) $$ HV; iintro HV
  iapply (store_part c) $$ HV; iintro HV
  ihave HV := (turn c (b := cc0_stg6_0) (put_acc _ 0 ![0, 0] rfl inb_S1024x2048_S1024x512_0_0 (u := k0_pay18 _ C _) (c' := C) rfl)) $$ HV
  iapply (load_part c) $$ HK; iintro HK
  iapply (load_all c) $$ Hc; iintro Hc
  iapply (load_part c) $$ Hk'; iintro Hk'
  iapply (run_ret c)
  iapply Hk
  isplitl [HK]; · iexact HK
  isplitl [HV]; · iexact HV
  isplitl [Hc]; · iexact Hc
  isplitl [Hk']; · iexact Hk'
  isplitl [HO]; · iexact HO
  isplitl [Ha3]; · iexact Ha3
  isplitl [Hp3]; · iexact Hp3
  isplitl [Ha6] <;> iassumption

/-- The partner's part is added to the two middle column blocks. -/
theorem part7_spec {Q : _ → sProp 𝕄} {C : Vec F S1024x128 .f32} {wk wv : Vec F S128x2048 .f32} {K V : Fin 4 → Vec F S1024x512 .f32} :
    iprop(pt c cc0_stg5_0 fullShare (cols K : Vec F S1024x2048 .f32) ∗ pt c cc0_stg6_0 fullShare (cols V : Vec F S1024x2048 .f32)
        ∗ pt c cc0_scratch1 fullShare C ∗ pt c cc0_scratch2 fullShare wk ∗ pt c cc0_scratch3 fullShare wv)
      ⊢ iprop(((pt c cc0_stg5_0 fullShare (cols (acc (acc K 1 C (chunk1 wk)) 2 C (chunk2 wk)) : Vec F S1024x2048 .f32) ∗ pt c cc0_stg6_0 fullShare (cols (acc (acc V 1 C (chunk1 wv)) 2 C (chunk2 wv)) : Vec F S1024x2048 .f32)
          ∗ pt c cc0_scratch1 fullShare C ∗ pt c cc0_scratch2 fullShare wk ∗ pt c cc0_scratch3 fullShare wv)
            -∗ Q ⟨⟩)
        -∗ run c (k0_part7 (Memref.whole cc0_stg0_0) (Memref.isWhole_whole _) (Memref.whole cc0_stg1_0) (Memref.isWhole_whole _)
          (Memref.whole cc0_stg2_0) (Memref.isWhole_whole _) (Memref.whole cc0_stg3_0) (Memref.isWhole_whole _)
          (Memref.whole cc0_stg4_0) (Memref.isWhole_whole _) (Memref.whole cc0_stg5_0) (Memref.isWhole_whole _)
          (Memref.whole cc0_stg6_0) (Memref.isWhole_whole _) (Memref.whole cc0_stg7_0) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          cc0_scratch4 cc0_scratch5 (k0_pay19 (VecWindow.window (cols K : Vec F S1024x2048 .f32) ![0, 512] S1024x512.size inb_S1024x2048_S1024x512_0_512)) C (chunk1 wk)) Q) := by
  rw [k0_part7_eq_skeleton]
  unfold k0_part7_skel
  simp only [Prog.lift, Prog.bind_op, Prog.bind_ret, Prog.pure_eq_ret, Prog.bind_assoc]
  iintro ⟨HK, HV, Hc, Hk', Hv'⟩ Hk
  iapply (load_part c) $$ HK; iintro HK
  iapply (store_part c) $$ HK; iintro HK
  ihave HK := (turn c (b := cc0_stg5_0) (put_acc _ 1 ![0, 512] rfl inb_S1024x2048_S1024x512_0_512 (u := k0_pay20 (k0_pay19 _) C _) (c' := C) rfl)) $$ HK
  iapply (load_part c) $$ HV; iintro HV
  iapply (load_all c) $$ Hc; iintro Hc
  iapply (load_part c) $$ Hv'; iintro Hv'
  iapply (load_part c) $$ HV; iintro HV
  iapply (store_part c) $$ HV; iintro HV
  ihave HV := (turn c (b := cc0_stg6_0) (put_acc _ 1 ![0, 512] rfl inb_S1024x2048_S1024x512_0_512 (u := k0_pay21 _ C _) (c' := C) rfl)) $$ HV
  iapply (load_part c) $$ HK; iintro HK
  iapply (load_all c) $$ Hc; iintro Hc
  iapply (load_part c) $$ Hk'; iintro Hk'
  iapply (load_part c) $$ HK; iintro HK
  iapply (store_part c) $$ HK; iintro HK
  ihave HK := (turn c (b := cc0_stg5_0) (put_acc _ 2 ![0, 1024] rfl inb_S1024x2048_S1024x512_0_1024 (u := k0_pay22 _ C _) (c' := C) rfl)) $$ HK
  iapply (load_part c) $$ HV; iintro HV
  iapply (load_all c) $$ Hc; iintro Hc
  iapply (load_part c) $$ Hv'; iintro Hv'
  iapply (load_part c) $$ HV; iintro HV
  iapply (store_part c) $$ HV; iintro HV
  ihave HV := (turn c (b := cc0_stg6_0) (put_acc _ 2 ![0, 1024] rfl inb_S1024x2048_S1024x512_0_1024 (u := k0_pay23 _ C _) (c' := C) rfl)) $$ HV
  iapply (run_ret c)
  iapply Hk
  isplitl [HK]; · iexact HK
  isplitl [HV]; · iexact HV
  isplitl [Hc]; · iexact Hc
  isplitl [Hk'] <;> iassumption

/-- All column blocks written and added to: the keys, or the values. -/
theorem cols_kvOf (K : Fin 4 → Vec F S1024x512 .f32) (C C' : Vec F S1024x128 .f32) (w w' : Vec F S128x2048 .f32) :
    (cols (acc (acc (acc (acc (Function.update (Function.update (Function.update (Function.update K 0 (k0_pay7 C (chunk0 w))) 1 (k0_pay7 C (chunk1 w)))
      2 (k0_pay7 C (chunk2 w))) 3 (k0_pay7 C (chunk3 w))) 0 C' (chunk0 w')) 1 C' (chunk1 w')) 2 C' (chunk2 w')) 3 C' (chunk3 w')) : Vec F S1024x2048 .f32)
      = kvOf C w C' w' := by
  rw [update_four]
  unfold kvOf
  refine congrArg cols ?_
  unfold acc
  rw [update_four]
  simp [Function.update]

/-- The tokens of the duties a device pays: the partner's barrier, its own sends, the partner's receives. -/
def toks : sProp 𝕄 :=
  iprop(dutyTok EX (cell 0 (mate c)) 0 () ∗ (dutyTok EX (cell 1 c) 0 () ∗ dutyTok EX (cell 2 c) 0 () ∗ dutyTok EX (cell 3 c) 0 ())
    ∗ (dutyTok EX (cell 4 (mate c)) 0 () ∗ dutyTok EX (cell 5 (mate c)) 0 () ∗ dutyTok EX (cell 6 (mate c)) 0 ()))
/-- The credits for what its partner owes it. -/
def credits : sProp 𝕄 :=
  iprop(cred (tallyAt (cell 0 c) () (amt 0)) ∗ cred (tallyAt (cell 4 c) () (amt 4)) ∗ cred (tallyAt (cell 5 c) () (amt 5)) ∗ cred (tallyAt (cell 6 c) () (amt 6)))
/-- Its six copy cells, opened. -/
def opened : sProp 𝕄 := bigSep Finset.univ fun k : Fin 6 => iprop(atPos EX (cell k.succ c) 0 ∅ 0 ∗ reached EX (cell k.succ c) 0)
/-- Its six copy cells, closed. -/
def closed : sProp 𝕄 := bigSep Finset.univ fun k : Fin 6 => (semVal (cell k.succ c) 0 : sProp 𝕄)

/-- The six copy cells when open, one by one. -/
theorem opened_eq : (opened c : sProp 𝕄) = iprop((atPos EX (cell 1 c) 0 ∅ 0 ∗ reached EX (cell 1 c) 0) ∗ (atPos EX (cell 2 c) 0 ∅ 0 ∗ reached EX (cell 2 c) 0)
    ∗ (atPos EX (cell 3 c) 0 ∅ 0 ∗ reached EX (cell 3 c) 0) ∗ (atPos EX (cell 4 c) 0 ∅ 0 ∗ reached EX (cell 4 c) 0)
    ∗ (atPos EX (cell 5 c) 0 ∅ 0 ∗ reached EX (cell 5 c) 0) ∗ (atPos EX (cell 6 c) 0 ∅ 0 ∗ reached EX (cell 6 c) 0)) :=
  bigSep_univ_eq_bigSepL [0, 1, 2, 3, 4, 5] (by decide) (by decide) _
/-- The six copy cells when closed, one by one. -/
theorem closed_eq : (closed c : sProp 𝕄) = iprop(semVal (cell 1 c) 0 ∗ semVal (cell 2 c) 0 ∗ semVal (cell 3 c) 0 ∗ semVal (cell 4 c) 0
    ∗ semVal (cell 5 c) 0 ∗ semVal (cell 6 c) 0) :=
  bigSep_univ_eq_bigSepL [0, 1, 2, 3, 4, 5] (by decide) (by decide) _

/-- The four scratch buffers, at any contents. -/
abbrev scratches : sProp 𝕄 := iprop(someOf c cc0_scratch0 ∗ someOf c cc0_scratch1 ∗ someOf c cc0_scratch2 ∗ someOf c cc0_scratch3)

/-- The whole body: keys, values and rotary keys are written, every counter ends at zero, nothing is owed. -/
theorem body_spec {Q : _ → sProp 𝕄} {W : Waits sig Unit} :
    iprop((records m κ ∗ levAts L lv ∗ atPos EX (cell 0 c) 0 ∅ 0 ∗ opened c ∗ toks c ∗ credits c) ∗ scratches c ∗ owes (c : Thread nD τ) (due c) W
        ∗ pt c cc0_stg0_0 fullShare (argX m c) ∗ pt c cc0_stg1_0 fullShare (argD m c) ∗ pt c cc0_stg2_0 fullShare (argK m c)
        ∗ pt c cc0_stg3_0 fullShare (argV m c) ∗ pt c cc0_stg4_0 fullShare (argR m c)
        ∗ someOf c cc0_stg5_0 ∗ someOf c cc0_stg6_0 ∗ someOf c cc0_stg7_0)
      ⊢ iprop((((semVal (cell 0 c) 0 ∗ closed c) ∗ scratches c ∗ (∃ W', owes (c : Thread nD τ) (0 : CellTallies nD τ sig Unit) W')
          ∗ pt c cc0_stg0_0 fullShare (argX m c) ∗ pt c cc0_stg1_0 fullShare (argD m c) ∗ pt c cc0_stg2_0 fullShare (argK m c)
          ∗ pt c cc0_stg3_0 fullShare (argV m c) ∗ pt c cc0_stg4_0 fullShare (argR m c)
          ∗ pt c cc0_stg5_0 fullShare (kAt m c) ∗ pt c cc0_stg6_0 fullShare (vAt m c) ∗ pt c cc0_stg7_0 fullShare (rAt m c))
            -∗ Q ⟨⟩)
        -∗ run c (cc0_body (Memref.whole cc0_stg0_0) (Memref.isWhole_whole _) (Memref.whole cc0_stg1_0) (Memref.isWhole_whole _)
          (Memref.whole cc0_stg2_0) (Memref.isWhole_whole _) (Memref.whole cc0_stg3_0) (Memref.isWhole_whole _)
          (Memref.whole cc0_stg4_0) (Memref.isWhole_whole _) (Memref.whole cc0_stg5_0) (Memref.isWhole_whole _)
          (Memref.whole cc0_stg6_0) (Memref.isWhole_whole _) (Memref.whole cc0_stg7_0) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          cc0_scratch4 cc0_scratch5) Q) := by
  rw [cc0_body_eq_skeleton, opened_eq, closed_eq]
  unfold cc0_body_skel toks credits
  simp only [Prog.lift, wp_bind]
  iintro ⟨⟨#HR, #HL, Ha0, ⟨⟨Ha1, Hr1⟩, ⟨Ha2, Hr2⟩, ⟨Ha3, Hr3⟩, ⟨Ha4, Hr4⟩, ⟨Ha5, Hr5⟩, ⟨Ha6, Hr6⟩⟩, ⟨Ht0, Ht1, Ht4⟩, ⟨Hc0, Hc4, Hc5, Hc6⟩⟩,
    ⟨⟨%f, Hs⟩, Hl⟩, HO, Hx, Hd, H2, H3, H4, ⟨%f5, H5⟩, ⟨%f6, H6⟩, ⟨%f7, H7⟩⟩ Hk
  obtain ⟨K, rfl⟩ := exists_cols f5
  obtain ⟨V, rfl⟩ := exists_cols f6
  iapply (part1_spec m κ c) $$ [Hx Hd Hs Hl Hr4 Hr5 Hr6 HO Ht0 Hc0 Ha0]
  · isplitr; · iexact HR
    isplitr; · iexact HL
    isplitl [Hx]; · iexact Hx
    isplitl [Hd]; · iexact Hd
    isplitl [Hs]; · iexact Hs
    isplitl [Hl]; · iexact Hl
    isplitl [Hr4 Hr5 Hr6]
    · isplitl [Hr4]; · iexact Hr4
      isplitl [Hr5] <;> iassumption
    isplitl [HO]; · iexact HO
    isplitl [Ht0]; · iexact Ht0
    isplitl [Hc0] <;> iassumption
  iintro %v5 %v8 %v9 ⟨Hx, Hd, Hs, ⟨%W₁, HO⟩, Ha0, Hp0⟩
  iapply (part2_spec m κ c v5 v8 v9) $$ [Hs H2 H3 Hp0 Hr1 Hr2 Hr3 HO Ht1 Ht4]
  · isplitr; · iexact HR
    isplitl [Hs]; · iexact Hs
    isplitl [H2]; · iexact H2
    isplitl [H3]; · iexact H3
    isplitl [Hp0]; · iexact Hp0
    isplitl [Hr1 Hr2 Hr3]
    · isplitl [Hr1]; · iexact Hr1
      isplitl [Hr2] <;> iassumption
    isplitl [HO]; · iexact HO
    isplitl [Ht1] <;> iassumption
  iintro ⟨Hs, H2, H3, HO, Hc1, Hc2, Hc3⟩
  iapply (part3_spec c) $$ [Hs H2 H3 H5 H6]
  · isplitl [Hs]; · iexact Hs
    isplitl [H2]; · iexact H2
    isplitl [H3]; · iexact H3
    isplitl [H5] <;> iassumption
  iintro ⟨Hs, H2, H3, H5, H6⟩
  iapply (part4_spec c) $$ [Hs H2 H3 H5 H6 Hx H4 H7]
  · isplitl [Hs]; · iexact Hs
    isplitl [H2]; · iexact H2
    isplitl [H3]; · iexact H3
    isplitl [H5]; · iexact H5
    isplitl [H6]; · iexact H6
    isplitl [Hx]; · iexact Hx
    isplitl [H4] <;> iassumption
  iintro ⟨Hs, H2, H3, H5, H6, Hx, H4, H7⟩
  iapply (part5_spec m κ c v5 v8 v9) $$ [Hx H4 H7 HO Hc1 Ha1 Hc4 Ha4 Hc2 Ha2 Hc5 Ha5]
  · isplitr; · iexact HR
    isplitl [Hx]; · iexact Hx
    isplitl [H4]; · iexact H4
    isplitl [H7]; · iexact H7
    isplitl [HO]; · iexact HO
    isplitl [Hc1]; · iexact Hc1
    isplitl [Ha1]; · iexact Ha1
    isplitl [Hc4]; · iexact Hc4
    isplitl [Ha4]; · iexact Ha4
    isplitl [Hc2]; · iexact Hc2
    isplitl [Ha2]; · iexact Ha2
    isplitl [Hc5] <;> iassumption
  dsimp only [pay]
  iintro ⟨Hx, H4, H7, HO, Ha1, Hp1, Ha4, Hp4, Ha2, Hp2, Ha5, Hp5⟩
  iapply (part6_spec m κ c v5 v8 v9) $$ [H5 H6 Hp4 Hp5 HO Hc3 Ha3 Hc6 Ha6]
  · isplitr; · iexact HR
    isplitl [H5]; · iexact H5
    isplitl [H6]; · iexact H6
    isplitl [Hp4]; · iexact Hp4
    isplitl [Hp5]; · iexact Hp5
    isplitl [HO]; · iexact HO
    isplitl [Hc3]; · iexact Hc3
    isplitl [Ha3]; · iexact Ha3
    isplitl [Hc6] <;> iassumption
  dsimp only [pay]
  iintro ⟨H5, H6, Hp4, Hp5, HO, Ha3, Hp3, Ha6, Hp6⟩
  iapply (part7_spec c) $$ [H5 H6 Hp4 Hp5 Hp6]
  · isplitl [H5]; · iexact H5
    isplitl [H6]; · iexact H6
    isplitl [Hp4]; · iexact Hp4
    isplitl [Hp5] <;> iassumption
  iintro ⟨H5, H6, Hp4, Hp5, Hp6⟩
  iapply (load_part c) $$ H5; iintro H5
  iapply (run_ret c)
  iapply (load_all c) $$ Hp4; iintro Hp4
  iapply (run_ret c)
  iapply (load_part c) $$ Hp5; iintro Hp5
  iapply (run_ret c)
  iapply (load_part c) $$ H5; iintro H5
  iapply (run_ret c)
  iapply (store_part c) $$ H5; iintro H5
  iapply (run_ret c)
  ihave H5 := (turn c (b := cc0_stg5_0) ((put_acc _ 3 ![0, 1536] rfl inb_S1024x2048_S1024x512_0_1536 (u := k0_pay1 _ _ _) rfl).trans (cols_kvOf _ _ _ _ _))) $$ H5
  iapply (load_part c) $$ H6; iintro H6
  iapply (run_ret c)
  iapply (load_all c) $$ Hp4; iintro Hp4
  iapply (run_ret c)
  iapply (load_part c) $$ Hp6; iintro Hp6
  iapply (run_ret c)
  iapply (load_part c) $$ H6; iintro H6
  iapply (run_ret c)
  iapply (store_part c) $$ H6; iintro H6
  iapply (run_ret c)
  ihave H6 := (turn c (b := cc0_stg6_0) ((put_acc _ 3 ![0, 1536] rfl inb_S1024x2048_S1024x512_0_1536 (u := k0_pay2 _ _ _) rfl).trans (cols_kvOf _ _ _ _ _))) $$ H6
  imod (close m κ c 0) $$ [Ha0] with Ha0
  · isplitr; · iexact HR
    iexact Ha0
  imod (close m κ c 1) $$ [Ha1] with Ha1
  · isplitr; · iexact HR
    iexact Ha1
  imod (close m κ c 2) $$ [Ha2] with Ha2
  · isplitr; · iexact HR
    iexact Ha2
  imod (close m κ c 3) $$ [Ha3] with Ha3
  · isplitr; · iexact HR
    iexact Ha3
  imod (close m κ c 4) $$ [Ha4] with Ha4
  · isplitr; · iexact HR
    iexact Ha4
  imod (close m κ c 5) $$ [Ha5] with Ha5
  · isplitr; · iexact HR
    iexact Ha5
  imod (close m κ c 6) $$ [Ha6] with Ha6
  · isplitr; · iexact HR
    iexact Ha6
  ihave Hs := (pointsTo_share (PosShare.mem_left_op_right fullShare)).2 $$ [Hp1 Hs]
  · isplitl [Hp1] <;> iassumption
  ihave H2 := (pointsTo_share (PosShare.mem_left_op_right fullShare)).2 $$ [Hp2 H2]
  · isplitl [Hp2] <;> iassumption
  ihave H3 := (pointsTo_share (PosShare.mem_left_op_right fullShare)).2 $$ [Hp3 H3]
  · isplitl [Hp3] <;> iassumption
  iapply (run_ret c)
  iapply Hk
  isplitl [Ha0 Ha1 Ha2 Ha3 Ha4 Ha5 Ha6]
  · isplitl [Ha0]; · iexact Ha0
    isplitl [Ha1]; · iexact Ha1
    isplitl [Ha2]; · iexact Ha2
    isplitl [Ha3]; · iexact Ha3
    isplitl [Ha4]; · iexact Ha4
    isplitl [Ha5] <;> iassumption
  isplitl [Hs Hp4 Hp5 Hp6]
  · isplitl [Hs]; · iexists _; iexact Hs
    isplitl [Hp4]; · iexists _; iexact Hp4
    isplitl [Hp5]; · iexists _; iexact Hp5
    iexists _; iexact Hp6
  isplitl [HO]; · iexact HO
  isplitl [Hx]; · iexact Hx
  isplitl [Hd]; · iexact Hd
  isplitl [H2]; · iexact H2
  isplitl [H3]; · iexact H3
  isplitl [H4]; · iexact H4
  isplitl [H5]; · iexact H5
  isplitl [H6]; · iexact H6
  iexact H7

end Cert.KernelIdeal.Pair

end
-- ==== Proof.Entry.lean ====
/-
  The first kernel under the pipeline: its contract, and how it is entered and left.
-/
module

public import proofs.«01_k».proof.Proof.Talk
public import Idealize.ShloMosaic.Lib.Pipeline.ValueKit

@[expose] public section

noncomputable section

namespace Cert.KernelIdeal.Pair

open Cert.KernelIdeal Cert.KernelIdeal.Gen Cert.Sheets
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-- The buffers that belong to no window of the first kernel. -/
abbrev rest0 (c : Dev nD) : sProp 𝕄 := Pipeline.scopedRest (Ix := Unit) (Name := ℕ) (U := UU) (Lvl := ℕ) (Val := Elt F) spec0 c

/-- What the exchange needs of device `c` at its start, the cells' records apart. -/
abbrev stake (c : Dev nD) : sProp 𝕄 := iprop(levAts L lv ∗ atPos EX (cell 0 c) 0 ∅ 0 ∗ opened c ∗ toks c ∗ credits c)

/-- Before the exchange and after it. -/
def talk0 (c : Dev nD) : sProp 𝕄 := iprop((∃ κ, records m κ ∗ stake c) ∗ rest0 c ∗ ∃ r, prngReg c r)
/-- What the exchange leaves: every counter back at zero, the scratch buffers and the random state. -/
def talk1 (c : Dev nD) : sProp 𝕄 := iprop((semVal (cell 0 c) 0 ∗ closed c) ∗ rest0 c ∗ ∃ r, prngReg c r)

/-- The first kernel: inputs stay; keys, values and rotary keys are written; what it owed is paid. -/
def dat0 (c : Dev nD) : Dat τ (Elt F) Unit ℕ UU ℕ cfg0 c where
  A w := m ((c : Dev nD), Proc.devRef .tc (Pipeline.arrRef spec0 w))
  after w _ := match w with
    | ⟨0, _⟩ => argX m c | ⟨1, _⟩ => argD m c | ⟨2, _⟩ => argK m c | ⟨3, _⟩ => argV m c | ⟨4, _⟩ => argR m c
    | ⟨5, _⟩ => kAt m c | ⟨6, _⟩ => vAt m c | ⟨7, _⟩ => rAt m c
  Φ t := if t.val = 0 then talk0 m c else talk1 c
  q _ := fullShare
  owed t := if t.val = 0 then due c else 0

/-- There is one point, and every block is its whole array. -/
theorem idx0 : ∀ t : Fin cfg0.N, win0_0.index t = ![0, 0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] :=
  (by decide +kernel : ∀ t : Fin grid0.N, _)

/-- The block of a window that covers its array in one block is the array. -/
theorem whole_0 (j) : (win0_0.blk t0_0).view.emb j = j := by blk_ext [idx0 t0_0]
/-- Window 1 of the exchange covers its whole array. -/
theorem whole_1 (j) : (win0_1.blk t0_0).view.emb j = j := by blk_ext [idx0 t0_0]
/-- Window 2 of the exchange covers its whole array. -/
theorem whole_2 (j) : (win0_2.blk t0_0).view.emb j = j := by blk_ext [idx0 t0_0]
/-- Window 3 of the exchange covers its whole array. -/
theorem whole_3 (j) : (win0_3.blk t0_0).view.emb j = j := by blk_ext [idx0 t0_0]
/-- Window 4 of the exchange covers its whole array. -/
theorem whole_4 (j) : (win0_4.blk t0_0).view.emb j = j := by blk_ext [idx0 t0_0]
/-- Window 5 of the exchange covers its whole array. -/
theorem whole_5 (j) : (win0_5.blk t0_0).view.emb j = j := by blk_ext [idx0 t0_0]
/-- Window 6 of the exchange covers its whole array. -/
theorem whole_6 (j) : (win0_6.blk t0_0).view.emb j = j := by blk_ext [idx0 t0_0]
/-- Window 7 of the exchange covers its whole array. -/
theorem whole_7 (j) : (win0_7.blk t0_0).view.emb j = j := by blk_ext [idx0 t0_0]

/-- Each input's buffer holds its argument when the body runs. -/
theorem before0_0 (c : Dev nD) (d) : (dat0 m c).before 0 t0_0 d = argX m c :=
  ((dat0 m c).before_fetched 0 t0_0 (fetch0_0 _) d).trans (funext fun j => congrArg (argX m c) (whole_0 j))
/-- The body finds the down-projection in window 1. -/
theorem before0_1 (c : Dev nD) (d) : (dat0 m c).before 1 t0_0 d = argD m c :=
  ((dat0 m c).before_fetched 1 t0_0 (fetch0_1 _) d).trans (funext fun j => congrArg (argD m c) (whole_1 j))
/-- It finds the key up-projection in window 2. -/
theorem before0_2 (c : Dev nD) (d) : (dat0 m c).before 2 t0_0 d = argK m c :=
  ((dat0 m c).before_fetched 2 t0_0 (fetch0_2 _) d).trans (funext fun j => congrArg (argK m c) (whole_2 j))
/-- It finds the value up-projection in window 3. -/
theorem before0_3 (c : Dev nD) (d) : (dat0 m c).before 3 t0_0 d = argV m c :=
  ((dat0 m c).before_fetched 3 t0_0 (fetch0_3 _) d).trans (funext fun j => congrArg (argV m c) (whole_3 j))
/-- It finds the rotary weights in window 4. -/
theorem before0_4 (c : Dev nD) (d) : (dat0 m c).before 4 t0_0 d = argR m c :=
  ((dat0 m c).before_fetched 4 t0_0 (fetch0_4 _) d).trans (funext fun j => congrArg (argR m c) (whole_4 j))

/-- What the device owes at the body's start and at its end. -/
theorem owed0_first (c : Dev nD) : (dat0 m c).owed 0 = due c := by
  show (if ((0 : Fin (cfg0.N + 1)).val = 0) then due c else 0) = due c
  exact if_pos rfl
/-- On entry everything is still owed. -/
theorem owed0_start (c : Dev nD) : (dat0 m c).owed t0_0.castSucc = due c := by
  show (if (t0_0.castSucc : Fin (cfg0.N + 1)).val = 0 then due c else 0) = due c
  exact if_pos rfl
/-- On leaving nothing is. -/
theorem owed0_last (c : Dev nD) : (dat0 m c).owed (Fin.last cfg0.N) = 0 := by
  show (if (Fin.last cfg0.N).val = 0 then due c else 0) = 0
  rw [Fin.val_last, if_neg (by rw [show cfg0.N = 1 from N_0]; decide)]

/-- What is owed, out of the pipeline's form and into it. -/
theorem owes_out (c : Dev nD) (t : Fin (cfg0.N + 1)) {O : CellTallies nD τ sig Unit} (h : (dat0 m c).owed t = O) :
    ((dat0 m c).owesAt () t : sProp 𝕄) ⊢ iprop(∃ W, owes (c : Thread nD τ) O W) := by
  unfold Dat.owesAt Pipeline.owesWithin
  rw [h]
  iintro ⟨%W, -, H⟩
  iexists W
  iexact H
/-- What the contract owes at a step, under its plain name. -/
theorem owes_in (c : Dev nD) (t : Fin (cfg0.N + 1)) {O : CellTallies nD τ sig Unit} (h : (dat0 m c).owed t = O) (W : Waits sig Unit) :
    (owes (c : Thread nD τ) O W : sProp 𝕄) ⊢ (dat0 m c).owesAt () t := by
  unfold Dat.owesAt Pipeline.owesWithin
  rw [h]
  iintro H
  iexists W
  isplitr
  · ipureintro
    exact fun _ _ => Or.inl trivial
  iexact H

/-- The first kernel's body meets its contract. -/
theorem body0 (c : Dev nD) : BodyObligation (dat0 m c) (defs₀ (F := F)) 𝒱₀ () Set.univ := fun t => by
  obtain rfl := fin_N0 t
  rw [bigSep_W0, bigSep_W0, show (dat0 m c).Φ t0_0.castSucc = talk0 m c from rfl, show (dat0 m c).Φ t0_0.succ = talk1 c from rfl]
  simp only [before0_0, before0_1, before0_2, before0_3, before0_4]
  unfold talk0 talk1
  rw [show (rest0 c : sProp 𝕄) = _ from scopedRest0_eq c]
  iintro ⟨⟨⟨%κ, #HR, Hst⟩, ⟨Hs0, Hs1, Hs2, Hs3, Hrest⟩, Hreg⟩, HO, ⟨%_, H0⟩, ⟨%_, H1⟩, ⟨%_, H2⟩, ⟨%_, H3⟩, ⟨%_, H4⟩, ⟨%_, H5⟩, ⟨%_, H6⟩, ⟨%_, H7⟩⟩
  ihave HO := (owes_out m c _ (owed0_start m c)) $$ HO
  icases HO with ⟨%W, HO⟩
  iapply (body_spec m κ c (W := W)) $$ [Hst Hs0 Hs1 Hs2 Hs3 HO H0 H1 H2 H3 H4 H5 H6 H7]
  · isplitl [Hst]
    · isplitr; · iexact HR
      iexact Hst
    isplitl [Hs0 Hs1 Hs2 Hs3]
    · isplitl [Hs0]; · iexact Hs0
      isplitl [Hs1]; · iexact Hs1
      isplitl [Hs2] <;> iassumption
    isplitl [HO]; · iexact HO
    isplitl [H0]; · iapply (Entails.of_eq (owns_whole (c : Thread nD τ) cc0_stg0_0 fullShare _)); iexact H0
    isplitl [H1]; · iapply (Entails.of_eq (owns_whole (c : Thread nD τ) cc0_stg1_0 fullShare _)); iexact H1
    isplitl [H2]; · iapply (Entails.of_eq (owns_whole (c : Thread nD τ) cc0_stg2_0 fullShare _)); iexact H2
    isplitl [H3]; · iapply (Entails.of_eq (owns_whole (c : Thread nD τ) cc0_stg3_0 fullShare _)); iexact H3
    isplitl [H4]; · iapply (Entails.of_eq (owns_whole (c : Thread nD τ) cc0_stg4_0 fullShare _)); iexact H4
    isplitl [H5]; · iexists _; iapply (Entails.of_eq (owns_whole (c : Thread nD τ) cc0_stg5_0 fullShare _)); iexact H5
    isplitl [H6]; · iexists _; iapply (Entails.of_eq (owns_whole (c : Thread nD τ) cc0_stg6_0 fullShare _)); iexact H6
    iexists _; iapply (Entails.of_eq (owns_whole (c : Thread nD τ) cc0_stg7_0 fullShare _)); iexact H7
  iintro ⟨Hcl, ⟨Hs0, Hs1, Hs2, Hs3⟩, ⟨%W', HO⟩, H0, H1, H2, H3, H4, H5, H6, H7⟩
  isplitl [Hcl Hs0 Hs1 Hs2 Hs3 Hrest Hreg]
  · isplitl [Hcl]; · iexact Hcl
    isplitl [Hs0 Hs1 Hs2 Hs3 Hrest]
    · isplitl [Hs0]; · iexact Hs0
      isplitl [Hs1]; · iexact Hs1
      isplitl [Hs2]; · iexact Hs2
      isplitl [Hs3]; · iexact Hs3
      iexact Hrest
    iexact Hreg
  isplitl [HO]; · iapply (owes_in m c t0_0.succ (owed0_last m c) W'); iexact HO
  isplitl [H0]; · iapply (Entails.of_eq (owns_whole (c : Thread nD τ) cc0_stg0_0 fullShare _).symm); iexact H0
  isplitl [H1]; · iapply (Entails.of_eq (owns_whole (c : Thread nD τ) cc0_stg1_0 fullShare _).symm); iexact H1
  isplitl [H2]; · iapply (Entails.of_eq (owns_whole (c : Thread nD τ) cc0_stg2_0 fullShare _).symm); iexact H2
  isplitl [H3]; · iapply (Entails.of_eq (owns_whole (c : Thread nD τ) cc0_stg3_0 fullShare _).symm); iexact H3
  isplitl [H4]; · iapply (Entails.of_eq (owns_whole (c : Thread nD τ) cc0_stg4_0 fullShare _).symm); iexact H4
  isplitl [H5]; · iapply (Entails.of_eq (owns_whole (c : Thread nD τ) cc0_stg5_0 fullShare _).symm); iexact H5
  isplitl [H6]; · iapply (Entails.of_eq (owns_whole (c : Thread nD τ) cc0_stg6_0 fullShare _).symm); iexact H6
  iapply (Entails.of_eq (owns_whole (c : Thread nD τ) cc0_stg7_0 fullShare _).symm); iexact H7

end Cert.KernelIdeal.Pair

end
-- ==== Proof.Grid.lean ====
/-
  The two kernels that run over a grid and talk to nobody: attention of one head of one batch entry, and one block of
  columns of the output projection.
-/
module

public import proofs.«01_k».proof.Proof.Steps

@[expose] public section

noncomputable section

namespace Cert.KernelIdeal.Pair

open Cert.KernelIdeal Cert.KernelIdeal.Gen Cert.Sheets
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

section Owned

variable {α : Type} (c : Dev nD) {s : Shape} {e : EltTy} (M : Memref sig .tc .vmem s e)

/-- Memref `M` of device `c` holds `X`. -/
abbrev has (X : s.Idx → Elt F e) : sProp 𝕄 := owns (c : Thread nD τ) M fullShare X

/-- Loading all of a memref gives what it holds. -/
theorem load_has {Q : α → sProp 𝕄} {X : s.Idx → Elt F e} {off : Fin s.rank → ℕ} {inb : ∀ a, off a + s.size a ≤ s.size a}
    {hl : M.view.LoadsAt (Rect.unit off s.size inb).toLoadRect}
    {k : ((Rect.unit off s.size inb).shape.Idx → Elt F e) → Prog (TpuEff nD τ sig (Elt F) Λ₀ .tc) α} :
    has c M X ⊢ iprop((has c M X -∗ run c (k X) Q) -∗ run c (.op (.load M (Rect.unit off s.size inb).toLoadRect hl) k) Q) := by
  unfold has owns
  iintro ⟨%f, %hf, H⟩ Hk
  have h := wp_load (defs := defs₀ (F := F)) (Name := ℕ) (U := UU) (Lvl := ℕ) (Ix := Unit) (Γ := []) 𝒱₀ (c : Thread nD τ) none Set.univ (m := M) (S := M.view.set) (q := fullShare) (f := f) (hl := hl) (k := k) (Q := Q)
    (M.view.setOn_subset_set _)
  rw [show M.view.readAt (Elt F) (Rect.unit off s.size inb).toLoadRect f = X from
    funext fun z => (congrFun hf _).trans (congrArg X (Rect.emb_unit_full inb z))] at h
  iapply h $$ H
  iintro H
  iapply Hk
  iexists f
  isplitr; · ipureintro; exact hf
  iexact H

/-- Storing all of a memref leaves what was stored. -/
theorem store_has {Q : α → sProp 𝕄} {X : s.Idx → Elt F e} {off : Fin s.rank → ℕ} {inb : ∀ a, off a + s.size a ≤ s.size a}
    {w : (Rect.unit off s.size inb).shape.Idx → Elt F e}
    {hx : (M.access (Rect.unit off s.size inb)).Stores Finset.univ}
    {hm : (Finset.univ : Finset (Rect.unit off s.size inb).shape.Idx) = Finset.univ ∨ ∀ a, (Rect.unit off s.size inb).stride a = 1}
    {k : PUnit → Prog (TpuEff nD τ sig (Elt F) Λ₀ .tc) α} :
    has c M X ⊢ iprop((has c M w -∗ run c (k ⟨⟩) Q) -∗ run c (.op (.store M (Rect.unit off s.size inb) w Finset.univ hx hm) k) Q) := by
  unfold has owns
  iintro ⟨%f, -, H⟩ Hk
  have h := wp_store (defs := defs₀ (F := F)) (Name := ℕ) (U := UU) (Lvl := ℕ) (Ix := Unit) (Γ := []) 𝒱₀ (c : Thread nD τ) none Set.univ (m := M) (r := Rect.unit off s.size inb) (w := w) (Mk := Finset.univ)
    (hx := hx) (hm := hm) (k := k) (S := M.view.set) (f := f) (Q := Q) (((M.access _).setOn_subset_set _).trans (M.view.set_slice_subset _))
  iapply h $$ H
  iintro H
  iapply Hk
  iexists _
  isplitr; swap; · iexact H
  ipureintro
  exact View.read_writes_full M.view f inb w []

end Owned

/-- Attention of one head of one batch entry: the output block is written. -/
theorem attn_spec (c : Dev nD) (i : grid1.Coords) (M2 : Memref sig .tc .vmem S1x512x2048 .f32) (h2 : M2.IsWhole) (M3 : Memref sig .tc .vmem S2048x128 .f32) (h3 : M3.IsWhole)
    (M4 : Memref sig .tc .vmem S1x2048x32 .f32) (h4 : M4.IsWhole) (M5 : Memref sig .tc .vmem S512x128 .f32) (h5 : M5.IsWhole)
    (M6 : Memref sig .tc .vmem S512x128 .f32) (h6 : M6.IsWhole) (M7 : Memref sig .tc .vmem S512x32 .f32) (h7 : M7.IsWhole)
    (M8 : Memref sig .tc .vmem S512x128 .f32) (h8 : M8.IsWhole) {Q : _ → sProp 𝕄} {X2 X3 X4 X5 X6 X7 X8} :
    iprop(has (F := F) c M2 X2 ∗ has c M3 X3 ∗ has c M4 X4 ∗ has c M5 X5 ∗ has c M6 X6 ∗ has c M7 X7 ∗ has c M8 X8)
      ⊢ iprop(((has c M2 X2 ∗ has c M3 X3 ∗ has c M4 X4 ∗ has c M5 X5 ∗ has c M6 X6 ∗ has c M7 X7 ∗ has c M8 (k1_pay1 X2 X3 X4 X5 X7 X6)) -∗ Q ⟨⟩)
        -∗ run c (cc1_body i M2 h2 M3 h3 M4 h4 M5 h5 M6 h6 M7 h7 M8 h8) Q) := by
  rw [cc1_body_eq_skeleton]
  unfold cc1_body_skel
  iintro ⟨H2, H3, H4, H5, H6, H7, H8⟩ Hk
  iapply (load_has c M2) $$ H2; iintro H2
  iapply (load_has c M3) $$ H3; iintro H3
  iapply (load_has c M4) $$ H4; iintro H4
  iapply (load_has c M5) $$ H5; iintro H5
  iapply (load_has c M7) $$ H7; iintro H7
  iapply (load_has c M6) $$ H6; iintro H6
  iapply (load_has c M8) $$ H8; iintro H8
  iapply (store_has c M8) $$ H8; iintro H8
  iapply (run_ret c)
  iapply Hk
  isplitl [H2]; · iexact H2
  isplitl [H3]; · iexact H3
  isplitl [H4]; · iexact H4
  isplitl [H5]; · iexact H5
  isplitl [H6]; · iexact H6
  isplitl [H7] <;> iassumption

/-- One block of columns of the output projection: the output block is written. -/
theorem proj_spec (c : Dev nD) (i : grid2.Coords) (M2 : Memref sig .tc .vmem S512x2048 .f32) (h2 : M2.IsWhole) (M3 : Memref sig .tc .vmem S2048x512 .f32) (h3 : M3.IsWhole)
    (M4 : Memref sig .tc .vmem S512x512 .f32) (h4 : M4.IsWhole) {Q : _ → sProp 𝕄} {X2 X3 X4} :
    iprop(has (F := F) c M2 X2 ∗ has c M3 X3 ∗ has c M4 X4)
      ⊢ iprop(((has c M2 X2 ∗ has c M3 X3 ∗ has c M4 (k2_pay1 X2 X3)) -∗ Q ⟨⟩) -∗ run c (cc2_body i M2 h2 M3 h3 M4 h4) Q) := by
  rw [cc2_body_eq_skeleton]
  unfold cc2_body_skel
  iintro ⟨H2, H3, H4⟩ Hk
  iapply (load_has c M2) $$ H2; iintro H2
  iapply (load_has c M3) $$ H3; iintro H3
  iapply (load_has c M4) $$ H4; iintro H4
  iapply (store_has c M4) $$ H4; iintro H4
  iapply (run_ret c)
  iapply Hk
  isplitl [H2]; · iexact H2
  isplitl [H3] <;> iassumption

/-! ## The two kernels under the pipeline, from a valuation of the arrays -/

variable (W : Dev nD → Valuation τ sig (Elt F))

/-- Input block number `w` of attention at point `t`. -/
abbrev in1 (c : Dev nD) (w : Fin cfg1.W) (t : Fin cfg1.N) : ((cfg1.win w).xblock (cfg1.grid.coords t)).Idx → Elt F (cfg1.win w).elt :=
  ((cfg1.win w).blk t).view.read (Elt F) (W c (Proc.devRef .tc (Pipeline.arrRef spec1 w)))
/-- Input block number `w` of the output projection at point `t`. -/
abbrev in2 (c : Dev nD) (w : Fin cfg2.W) (t : Fin cfg2.N) : ((cfg2.win w).xblock (cfg2.grid.coords t)).Idx → Elt F (cfg2.win w).elt :=
  ((cfg2.win w).blk t).view.read (Elt F) (W c (Proc.devRef .tc (Pipeline.arrRef spec2 w)))

/-- What attention writes at point `t`. -/
def attnOut (c : Dev nD) (t : Fin cfg1.N) : Vec F S512x128 .f32 :=
  k1_pay1 (in1 W c 0 t) (in1 W c 1 t) (in1 W c 2 t) (in1 W c 3 t) (in1 W c 5 t) (in1 W c 4 t)
/-- What the output projection writes at point `t`. -/
def projOut (c : Dev nD) (t : Fin cfg2.N) : Vec F S512x512 .f32 := k2_pay1 (in2 W c 0 t) (in2 W c 1 t)

/-- Attention: inputs stay, the output block is written, nothing is owed. -/
def dat1 (c : Dev nD) : Dat τ (Elt F) Unit ℕ UU ℕ cfg1 c where
  A w := W c (Proc.devRef .tc (Pipeline.arrRef spec1 w))
  after w t := match w with
    | ⟨6, _⟩ => attnOut W c t
    | ⟨0, _⟩ => in1 W c 0 t | ⟨1, _⟩ => in1 W c 1 t | ⟨2, _⟩ => in1 W c 2 t | ⟨3, _⟩ => in1 W c 3 t | ⟨4, _⟩ => in1 W c 4 t | ⟨5, _⟩ => in1 W c 5 t
  Φ _ := Pipeline.scopedRest (Ix := Unit) (Name := ℕ) (U := UU) (Lvl := ℕ) (Val := Elt F) cfg1.spec c
  q _ := fullShare
  owed _ := 0
/-- The output projection: inputs stay, the output block is written, nothing is owed. -/
def dat2 (c : Dev nD) : Dat τ (Elt F) Unit ℕ UU ℕ cfg2 c where
  A w := W c (Proc.devRef .tc (Pipeline.arrRef spec2 w))
  after w t := match w with
    | ⟨2, _⟩ => projOut W c t
    | ⟨0, _⟩ => in2 W c 0 t | ⟨1, _⟩ => in2 W c 1 t
  Φ _ := Pipeline.scopedRest (Ix := Unit) (Name := ℕ) (U := UU) (Lvl := ℕ) (Val := Elt F) cfg2.spec c
  q _ := fullShare
  owed _ := 0

/-- Attention finds its block of array 0 in window 0. -/
theorem before1_0 (c : Dev nD) (t : Fin cfg1.N) (d) : (dat1 W c).before 0 t d = in1 W c 0 t :=
  (dat1 W c).before_in_eq_fetched 0 rfl (fun _ => rfl) (fun _ _ _ => rfl) (fun _ => rfl) t d
/-- Attention finds its block of array 1 in window 1. -/
theorem before1_1 (c : Dev nD) (t : Fin cfg1.N) (d) : (dat1 W c).before 1 t d = in1 W c 1 t :=
  (dat1 W c).before_in_eq_fetched 1 rfl (fun _ => rfl) (fun _ _ _ => rfl) (fun _ => rfl) t d
/-- Attention finds its block of array 2 in window 2. -/
theorem before1_2 (c : Dev nD) (t : Fin cfg1.N) (d) : (dat1 W c).before 2 t d = in1 W c 2 t :=
  (dat1 W c).before_in_eq_fetched 2 rfl (fun _ => rfl) (fun _ _ _ => rfl) (fun _ => rfl) t d
/-- Attention finds its block of array 3 in window 3. -/
theorem before1_3 (c : Dev nD) (t : Fin cfg1.N) (d) : (dat1 W c).before 3 t d = in1 W c 3 t :=
  (dat1 W c).before_in_eq_fetched 3 rfl (fun _ => rfl) (fun _ _ _ => rfl) (fun _ => rfl) t d
/-- Attention finds its block of array 4 in window 4. -/
theorem before1_4 (c : Dev nD) (t : Fin cfg1.N) (d) : (dat1 W c).before 4 t d = in1 W c 4 t :=
  (dat1 W c).before_in_eq_fetched 4 rfl (fun _ => rfl) (fun _ _ _ => rfl) (fun _ => rfl) t d
/-- Attention finds its block of array 5 in window 5. -/
theorem before1_5 (c : Dev nD) (t : Fin cfg1.N) (d) : (dat1 W c).before 5 t d = in1 W c 5 t :=
  (dat1 W c).before_in_eq_fetched 5 rfl (fun _ => rfl) (fun _ _ _ => rfl) (fun _ => rfl) t d
/-- The projection finds its rows of the attention output in window 0. -/
theorem before2_0 (c : Dev nD) (t : Fin cfg2.N) (d) : (dat2 W c).before 0 t d = in2 W c 0 t :=
  (dat2 W c).before_in_eq_fetched 0 rfl (fun _ => rfl) (fun _ _ _ => rfl) (fun _ => rfl) t d
/-- It finds its columns of the weights in window 1. -/
theorem before2_1 (c : Dev nD) (t : Fin cfg2.N) (d) : (dat2 W c).before 1 t d = in2 W c 1 t :=
  (dat2 W c).before_in_eq_fetched 1 rfl (fun _ => rfl) (fun _ _ _ => rfl) (fun _ => rfl) t d

/-- Attention's body meets its contract at every point. -/
theorem body1 (c : Dev nD) : BodyObligation (dat1 W c) (defs₀ (F := F)) 𝒱₀ () Set.univ := fun t => by
  rw [bigSep_W1, bigSep_W1, show (dat1 W c).Φ t.succ = (dat1 W c).Φ t.castSucc from rfl,
    show (dat1 W c).owesAt () t.succ = (dat1 W c).owesAt () t.castSucc from rfl]
  simp only [before1_0, before1_1, before1_2, before1_3, before1_4, before1_5]
  iintro ⟨HΦ, HO, ⟨%_, H0⟩, ⟨%_, H1⟩, ⟨%_, H2⟩, ⟨%_, H3⟩, ⟨%_, H4⟩, ⟨%_, H5⟩, ⟨%_, H6⟩⟩
  iapply (attn_spec c (grid1.coords t) (st1_0 t) (hstage1_0 ((cfg1.slots t 0).cast nbuf1_0)) (st1_1 t) (hstage1_1 ((cfg1.slots t 1).cast nbuf1_1))
    (st1_2 t) (hstage1_2 ((cfg1.slots t 2).cast nbuf1_2)) (st1_3 t) (hstage1_3 ((cfg1.slots t 3).cast nbuf1_3))
    (st1_4 t) (hstage1_4 ((cfg1.slots t 4).cast nbuf1_4)) (st1_5 t) (hstage1_5 ((cfg1.slots t 5).cast nbuf1_5))
    (st1_6 t) (hstage1_6 ((cfg1.slots t 6).cast nbuf1_6))) $$ [H0 H1 H2 H3 H4 H5 H6]
  · isplitl [H0]; · iexact H0
    isplitl [H1]; · iexact H1
    isplitl [H2]; · iexact H2
    isplitl [H3]; · iexact H3
    isplitl [H4]; · iexact H4
    isplitl [H5] <;> iassumption
  iintro ⟨H0, H1, H2, H3, H4, H5, H6⟩
  isplitl [HΦ]; · iexact HΦ
  isplitl [HO]; · iexact HO
  isplitl [H0]; · iexact H0
  isplitl [H1]; · iexact H1
  isplitl [H2]; · iexact H2
  isplitl [H3]; · iexact H3
  isplitl [H4]; · iexact H4
  isplitl [H5]; · iexact H5
  iexact H6

/-- The output projection's body meets its contract at every point. -/
theorem body2 (c : Dev nD) : BodyObligation (dat2 W c) (defs₀ (F := F)) 𝒱₀ () Set.univ := fun t => by
  rw [bigSep_W2, bigSep_W2, show (dat2 W c).Φ t.succ = (dat2 W c).Φ t.castSucc from rfl,
    show (dat2 W c).owesAt () t.succ = (dat2 W c).owesAt () t.castSucc from rfl]
  simp only [before2_0, before2_1]
  iintro ⟨HΦ, HO, ⟨%_, H0⟩, ⟨%_, H1⟩, ⟨%_, H2⟩⟩
  iapply (proj_spec c (grid2.coords t) (st2_0 t) (hstage2_0 ((cfg2.slots t 0).cast nbuf2_0)) (st2_1 t) (hstage2_1 ((cfg2.slots t 1).cast nbuf2_1))
    (st2_2 t) (hstage2_2 ((cfg2.slots t 2).cast nbuf2_2))) $$ [H0 H1 H2]
  · isplitl [H0]; · iexact H0
    isplitl [H1] <;> iassumption
  iintro ⟨H0, H1, H2⟩
  isplitl [HΦ]; · iexact HΦ
  isplitl [HO]; · iexact HO
  isplitl [H0]; · iexact H0
  isplitl [H1]; · iexact H1
  iexact H2

end Cert.KernelIdeal.Pair

end
-- ==== Proof.Stages.lean ====
/-
  The program's stages: what every buffer holds between them, and each stage as a segment of the run.
-/
module

public import proofs.«01_k».proof.Proof.Entry
public import proofs.«01_k».proof.Proof.Grid
public import proofs.«01_k».proof.Proof.Gen.KernelIdeal.Regions
public import Idealize.ShloMosaic.Lib.Pipeline.RegionTalk

@[expose] public section

noncomputable section

namespace Cert.KernelIdeal.Pair

open Cert.KernelIdeal Cert.KernelIdeal.Gen Cert.Sheets
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat afterRegion)

variable {F : FTy → Type} [FloatOps F]

local notation "𝕄" => MT nD τ sig Unit (Elt F) ℕ UU ℕ

variable (m : (ℓ : Loc nD τ sig) → Buf (Elt F) ℓ)

/-! ## What the buffers hold between the stages -/

/-- After the exchange. -/
def W1 (c : Dev nD) : Valuation τ sig (Elt F) := afterRegion (dat0 m c) (V0 m c)
/-- After the rotary weights are rearranged. -/
def W2 (c : Dev nD) : Valuation τ sig (Elt F) := StableHlo.after hostOps1 (W1 m c)
/-- After attention. -/
def W3 (c : Dev nD) : Valuation τ sig (Elt F) := afterRegion (dat1 (W2 m) c) (W2 m c)
/-- After the output projection. -/
def W4 (c : Dev nD) : Valuation τ sig (Elt F) := afterRegion (dat2 (W3 m) c) (W3 m c)
/-- At the end. -/
def W5 (c : Dev nD) : Valuation τ sig (Elt F) := StableHlo.after hostOps3 (W4 m c)

/-- The three kernels' contracts. -/
def pdats : (p : Fin 3) → (c : Dev nD) → Dat τ (Elt F) Unit ℕ UU ℕ (Pipeline.pin (pcfgs (F := F)) adm p) c
  | 0 => dat0 m
  | 1 => dat1 (W2 m)
  | 2 => dat2 (W3 m)

/-- Every array is held outright. -/
theorem full (p : Fin 3) (c : Dev nD) (w) : (pdats m p c).share w = fullShare := by
  fin_cases p <;> (unfold Dat.share; split <;> rfl)

/-- A buffer no stage writes holds at the end what it held at launch. -/
theorem kept (c : Dev nD) (r : Ref sig .tc) (h0 : ∀ w, Pipeline.arrRef spec0 w = r → (cfg0.win w).isOut = false) (h1 : r ∉ hostOps1_W)
    (h2 : ∀ w, Pipeline.arrRef spec1 w = r → (cfg1.win w).isOut = false) (h3 : ∀ w, Pipeline.arrRef spec2 w = r → (cfg2.win w).isOut = false)
    (h4 : r ∉ hostOps3_W) : W5 m c r = m ((c : Thread nD τ).loc r) :=
  (StableHlo.after_of_writes_sub hostOps3 _ hostOps3_writes h4).trans <|
    (Pipeline.afterRegion_keeps (dat2 (W3 m) c) (W3 m c) launch2.win.arr_inj (fun _ => rfl) r h3).trans <|
    (Pipeline.afterRegion_keeps (dat1 (W2 m) c) (W2 m c) launch1.win.arr_inj (fun _ => rfl) r h2).trans <|
    (StableHlo.after_of_writes_sub hostOps1 _ hostOps1_writes h1).trans <|
    (Pipeline.afterRegion_keeps (dat0 m c) (V0 m c) launch0.win.arr_inj (fun _ => rfl) r h0)

/-! ## The exchange as a segment -/

/-- Its own semaphores: two banks of three. -/
abbrev osem (k : Fin 6) : SemLoc sig := sm k.succ
/-- They are the region's own. -/
theorem ownFacts : Pipeline.OwnSemFacts spec0 osem := by decide

/-- What is dealt to device `c` at launch, its copy cells not yet opened. -/
def dealt (c : Dev nD) : sProp 𝕄 :=
  iprop(atPos EX (cell 0 c) 0 ∅ 0 ∗ (bigSep Finset.univ fun k : Fin 6 => openTok EX (cell k.succ c)) ∗ toks c)
/-- What the region takes from outside. -/
def Tk (c : Dev nD) : sProp 𝕄 := iprop((∃ κ, records m κ ∗ dealt c) ∗ credits c)
/-- What the body starts from. -/
def Xk (c : Dev nD) : sProp 𝕄 := iprop(∃ κ, records m κ ∗ stake c)
/-- What the region leaves outside: the barrier at zero. -/
def Yk (c : Dev nD) : sProp 𝕄 := semVal (cell 0 c) 0

/-- One copy cell, opened on its counter. -/
theorem open_one (κ : GSem nD τ sig → ℕ) (c : Dev nD) (k : Fin 7) :
    (records m κ ∗ openTok EX (cell k c) ∗ semVal (cell k c) 0 : sProp 𝕄) ⊢ |={Set.univ}=> iprop(atPos EX (cell k c) 0 ∅ 0 ∗ reached EX (cell k c) 0) := by
  iintro ⟨#HR, Ho, Hv⟩
  iapply (Rounds.cell_open EX (plan m) (g := cell k c) (Set.mem_univ (κ (cell k c))))
  isplitr; · iapply (inv_at m κ k c); iexact HR
  isplitl [Ho] <;> iassumption

/-- The six rights to open, one by one. -/
theorem rights_eq (c : Dev nD) : (bigSep Finset.univ fun k : Fin 6 => (openTok EX (cell k.succ c) : sProp 𝕄))
    = iprop(openTok EX (cell 1 c) ∗ openTok EX (cell 2 c) ∗ openTok EX (cell 3 c) ∗ openTok EX (cell 4 c) ∗ openTok EX (cell 5 c) ∗ openTok EX (cell 6 c)) :=
  bigSep_univ_eq_bigSepL [0, 1, 2, 3, 4, 5] (by decide) (by decide) _

/-- Opening all six on entry. -/
theorem hopen (c : Dev nD) : iprop(Tk m c ∗ Pipeline.ownSems0 osem c ∗ levAts L lv) ⊢ (|={Set.univ}=> Xk m c : sProp 𝕄) := by
  rw [show (Pipeline.ownSems0 osem c : sProp 𝕄) = closed c from rfl, closed_eq]
  unfold Tk Xk dealt
  rw [rights_eq]
  iintro ⟨⟨⟨%κ, #HR, Ha, ⟨Ho1, Ho2, Ho3, Ho4, Ho5, Ho6⟩, Ht⟩, Hc⟩, ⟨H1, H2, H3, H4, H5, H6⟩, #HL⟩
  imod (open_one m κ c 1) $$ [Ho1 H1] with H1
  · isplitr; · iexact HR
    isplitl [Ho1] <;> iassumption
  imod (open_one m κ c 2) $$ [Ho2 H2] with H2
  · isplitr; · iexact HR
    isplitl [Ho2] <;> iassumption
  imod (open_one m κ c 3) $$ [Ho3 H3] with H3
  · isplitr; · iexact HR
    isplitl [Ho3] <;> iassumption
  imod (open_one m κ c 4) $$ [Ho4 H4] with H4
  · isplitr; · iexact HR
    isplitl [Ho4] <;> iassumption
  imod (open_one m κ c 5) $$ [Ho5 H5] with H5
  · isplitr; · iexact HR
    isplitl [Ho5] <;> iassumption
  imod (open_one m κ c 6) $$ [Ho6 H6] with H6
  · isplitr; · iexact HR
    isplitl [Ho6] <;> iassumption
  imodintro
  iexists κ
  isplitr; · iexact HR
  isplitr; · iexact HL
  isplitl [Ha]; · iexact Ha
  rw [opened_eq]
  isplitl [H1 H2 H3 H4 H5 H6]
  · isplitl [H1]; · iexact H1
    isplitl [H2]; · iexact H2
    isplitl [H3]; · iexact H3
    isplitl [H4]; · iexact H4
    isplitl [H5] <;> iassumption
  isplitl [Ht] <;> iassumption

/-- The body's start, from what is there on entry. -/
theorem hin0 (c : Dev nD) : iprop(Pipeline.scopedRest (Pipeline.pin (pcfgs (F := F)) adm 0).spec c ∗ (∃ r, prngReg c r) ∗ StableHlo.held (c.tc : Thread nD τ) ∅ (V0 m c) ∗ Xk m c)
    ⊢ (pdats m 0 c).Φ 0 := by
  rw [show (pdats m 0 c).Φ 0 = talk0 m c from rfl]
  unfold talk0 Xk
  iintro ⟨Hs, Hp, -, HX⟩
  isplitl [HX]; · iexact HX
  isplitl [Hs]; · iexact Hs
  iexact Hp

/-- What is there on leaving, from the body's end. -/
theorem hout0 (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (W1 m c)
      ∗ Pipeline.ownSems0 osem c ∗ Yk c) := by
  rw [show (Pipeline.ownSems0 osem c : sProp 𝕄) = closed c from rfl, show (pdats m 0 c).Φ (Fin.last _) = talk1 c from rfl, show (StableHlo.held (c.tc : Thread nD τ) ∅ (W1 m c) : sProp 𝕄) = BI.emp from BI.bigSep_empty]
  unfold talk1 Yk
  iintro ⟨⟨Hb, Hc⟩, Hs, Hp⟩
  isplitl [Hs]; · iexact Hs
  isplitl [Hp]; · iexact Hp
  isplitr; · iempintro
  isplitl [Hc]; · iexact Hc
  iexact Hb

/-- No staging semaphore is one of the seven. -/
theorem staging0 : ∀ (w : Fin 8) (s : Fin (cfg0.win w).nbuf), kindOf (.dma ((cfg0.win w).sem s)) = none := by decide
/-- Attention's semaphores are none of the seven. -/
theorem staging1 : ∀ (w : Fin 7) (s : Fin (cfg1.win w).nbuf), kindOf (.dma ((cfg1.win w).sem s)) = none := by decide
/-- Nor are the projection's. -/
theorem staging2 : ∀ (w : Fin 3) (s : Fin (cfg2.win w).nbuf), kindOf (.dma ((cfg2.win w).sem s)) = none := by decide
/-- Any other cell lies at level zero. -/
theorem lv_none (c : Dev nD) {s : SemLoc sig} (h : kindOf s = none) : lv ((c : Thread nD τ), s) () ≤ 0 := by
  unfold lv; rw [h]; exact Nat.le_refl 0

/-- Whatever is owed during the exchange sits above every staging wait. -/
theorem cut0 (c : Dev nD) (t : Fin ((Pipeline.pin (pcfgs (F := F)) adm 0).N + 1)) (g : GSem nD τ sig) (i : Unit) (h : 0 < (pdats m 0 c).owed t g i) :
    i ∈ L g ∧ (0 : ℕ) < lv g i := by
  rw [show (pdats m 0 c).owed t = if t.val = 0 then due c else 0 from rfl] at h
  split at h
  · obtain ⟨k, hk, rfl⟩ := due_pos h
    exact ⟨mem_L _ _ _, lv_pos k hk _ _⟩
  · exact absurd h (Nat.lt_irrefl 0)

/-- The buffers the exchange's windows do not use. -/
abbrev others0 : Finset (DevRef τ sig) := Pipeline.ucRefs τ sig \ Pipeline.arrRefs (τ := τ) spec0

local notation "ℝ" => Pipeline.RegionSeg (pcfgs (F := F)) adm (pdats m) () defs₀ 𝒱₀ L lv

set_option backward.isDefEq.respectTransparency.types false in
/-- The exchange. -/
def reg0 : ℝ 0 :=
  Pipeline.RegionSeg.ofTalk (pcfgs (F := F)) adm (pdats m) () defs₀ 𝒱₀ L lv 0 osem ownFacts
    ∅ others0 (Finset.empty_subset _) launch0.toP rfl (fun c => (body0 m c).loose)
    (fun _ => 0) due (fun c => (owed0_first m c).trans (zero_add _).symm) (owed0_last m) (fun _ => rfl) (full m 0)
    (V0 m) (W1 m) (fun c b hb => Pipeline.afterRegion_off (dat0 m c) (V0 m c) (Pipeline.ucRefs τ sig) b (Finset.sdiff_subset hb))
    (Tk m) Yk (Xk m) Yk (hopen m) (hin0 m) (hout0 m)
    (fun c => by iintro H; imodintro; iexact H)
    (fun _ => 0)
    ⟨fun _ _ _ => mem_L _ _ _, fun c w s => lv_none c (staging0 w s), fun c t g i h => cut0 m c t g i h⟩
    (fun _ => iprop(emp))
    (fun _ _ => rfl) (fun c w => (Pipeline.afterRegion_arr (dat0 m c) (V0 m c) launch0.win.arr_inj w).symm)

/-- What rides along after the exchange: nothing owed, the barrier's counter at zero. -/
def rest (c : Dev nD) : sProp 𝕄 :=
  iprop((∃ W, owes (c : Thread nD τ) (0 : CellTallies nD τ sig Unit) W) ∗ emp ∗ semVal (cell 0 c) 0)
/-- All unscoped buffers of a device, at given contents. -/
abbrev allHeld (c : Dev nD) (V : Valuation τ sig (Elt F)) : sProp 𝕄 := StableHlo.held (c : Thread nD τ) (Pipeline.ucRefs τ sig) V

/-- The exchange's arrays are unscoped. -/
theorem arrs0 : Pipeline.arrRefs (τ := τ) spec0 ⊆ Pipeline.ucRefs τ sig := by decide
/-- So are attention's. -/
theorem arrs1 : Pipeline.arrRefs (τ := τ) (pcfgs (F := F) 1).spec ⊆ Pipeline.ucRefs τ sig := Pipeline.arrRefs_sub_ucRefs _ launch1.toP.win.arr_unscoped
/-- So are the projection's. -/
theorem arrs2 : Pipeline.arrRefs (τ := τ) (pcfgs (F := F) 2).spec ⊆ Pipeline.ucRefs τ sig := Pipeline.arrRefs_sub_ucRefs _ launch2.toP.win.arr_unscoped

/-- The exchange starts from the buffers at launch. -/
theorem reg0_pre (c : Dev nD) :
    iprop(allHeld c (V0 m c) ∗ Tk m c ∗ (∃ r, prngReg c r) ∗ ∃ W, owes (c : Thread nD τ) (due c) W) ⊢ (reg0 m).pre c := by
  show _ ⊢ iprop(StableHlo.held (c.tc : Thread nD τ) (Pipeline.arrRefs (τ := τ) spec0) (V0 m c) ∗ (∃ r, prngReg c r)
    ∗ (StableHlo.held (c.tc : Thread nD τ) others0 (V0 m c) ∗ emp) ∗ Tk m c ∗ ∃ Wd, owes (c : Thread nD τ) (0 + due c) Wd)
  unfold allHeld
  rw [StableHlo.held_sub_split (c.tc : Thread nD τ) arrs0 (V0 m c), zero_add]
  iintro ⟨⟨Ha, Hu⟩, HT, Hp, HO⟩
  isplitl [Ha]; · iexact Ha
  isplitl [Hp]; · iexact Hp
  isplitl [Hu]
  · isplitl [Hu]; · iexact Hu
    iempintro
  isplitl [HT] <;> iassumption

/-- The exchange ends with the buffers as `W1` says. -/
theorem reg0_post (c : Dev nD) : (reg0 m).post c ⊢ iprop(allHeld c (W1 m c) ∗ rest c) := by
  show iprop(StableHlo.held (c.tc : Thread nD τ) (Pipeline.arrRefs (τ := τ) spec0) (W1 m c) ∗ (∃ r, prngReg c r)
    ∗ (StableHlo.held (c.tc : Thread nD τ) others0 (W1 m c) ∗ emp) ∗ Yk c ∗ ∃ Wd, owes (c : Thread nD τ) (0 : CellTallies nD τ sig Unit) Wd) ⊢ _
  unfold allHeld rest Yk
  rw [StableHlo.held_sub_split (c.tc : Thread nD τ) arrs0 (W1 m c)]
  iintro ⟨Ha, -, ⟨Hu, -⟩, Hb, HO⟩
  isplitl [Ha Hu]
  · isplitl [Ha] <;> iassumption
  isplitl [HO]; · iexact HO
  isplitr; · iempintro
  iexact Hb

/-! ## The other stages -/

/-- A pinned pipeline is the one written down. -/
theorem pin1 : Pipeline.pin (pcfgs (F := F)) adm 1 = cfg1 := rfl
/-- The projection's configuration, pinned, is itself. -/
theorem pin2 : Pipeline.pin (pcfgs (F := F)) adm 2 = cfg2 := rfl
/-- Attention leaves the same scoped buffers aside under either name. -/
theorem others1 (c : Dev nD) : (Pipeline.scopedRest (Pipeline.pin (pcfgs (F := F)) adm 1).spec c : sProp 𝕄) = Pipeline.scopedRest cfg1.spec c :=
  congrArg (fun cfg : Pipeline.Cfg sig Λ₀ => (Pipeline.scopedRest cfg.spec c : sProp 𝕄)) pin1
/-- So does the projection. -/
theorem others2 (c : Dev nD) : (Pipeline.scopedRest (Pipeline.pin (pcfgs (F := F)) adm 2).spec c : sProp 𝕄) = Pipeline.scopedRest cfg2.spec c :=
  congrArg (fun cfg : Pipeline.Cfg sig Λ₀ => (Pipeline.scopedRest cfg.spec c : sProp 𝕄)) pin2
/-- Between points a grid kernel holds the buffers of no window of its own. -/
theorem phi1 (c : Dev nD) (t) : (pdats m 1 c).Φ t = Pipeline.scopedRest (Pipeline.pin (pcfgs (F := F)) adm 1).spec c := (others1 c).symm
/-- The projection carries just those buffers along. -/
theorem phi2 (c : Dev nD) (t) : (pdats m 2 c).Φ t = Pipeline.scopedRest (Pipeline.pin (pcfgs (F := F)) adm 2).spec c := (others2 c).symm

/-- What a grid kernel leaves, in either wording. -/
theorem after1 (c : Dev nD) : afterRegion (pdats m 1 c) (W2 m c) = W3 m c :=
  congrArg (fun d : (Σ cfg : Pipeline.Cfg sig Λ₀, Dat τ (Elt F) Unit ℕ UU ℕ cfg c) => afterRegion d.2 (W2 m c))
    (rfl : (⟨_, pdats m 1 c⟩ : Σ cfg : Pipeline.Cfg sig Λ₀, Dat τ (Elt F) Unit ℕ UU ℕ cfg c) = ⟨_, dat1 (W2 m) c⟩)
/-- What the projection leaves is `W4`. -/
theorem after2 (c : Dev nD) : afterRegion (pdats m 2 c) (W3 m c) = W4 m c :=
  congrArg (fun d : (Σ cfg : Pipeline.Cfg sig Λ₀, Dat τ (Elt F) Unit ℕ UU ℕ cfg c) => afterRegion d.2 (W3 m c))
    (rfl : (⟨_, pdats m 2 c⟩ : Σ cfg : Pipeline.Cfg sig Λ₀, Dat τ (Elt F) Unit ℕ UU ℕ cfg c) = ⟨_, dat2 (W3 m) c⟩)

/-- Beside nothing. -/
theorem alone {P Q : sProp 𝕄} (h : Q = P) : (iprop(P ∗ emp) ⊢ Q) ∧ (Q ⊢ iprop(P ∗ emp)) := by
  subst h
  exact ⟨Entails.of_eq (BI.equiv_iff.mp sep_emp), Entails.of_eq (BI.equiv_iff.mp sep_emp).symm⟩

set_option backward.isDefEq.respectTransparency.types false in
/-- Attention. -/
def reg1 : ℝ 1 :=
  Pipeline.RegionSeg.ofHeldIn (pcfgs (F := F)) adm (pdats m) () defs₀ 𝒱₀ L lv 1 (fun _ => 0) (Pipeline.ucRefs τ sig) (fun _ => iprop(emp)) (fun _ => iprop(emp))
    launch1.toP rfl (fun c => (body1 (W2 m) c).loose) (fun _ _ => rfl) (fun _ => rfl) (full m 1)
    (fun c => (alone (phi1 m c _)).1) (fun c => (alone (phi1 m c _)).2)
    (fun _ => 0) ⟨fun _ _ _ => mem_L _ _ _, fun c w s => lv_none c (staging1 w s), fun _ _ _ h => absurd h (Nat.lt_irrefl 0)⟩
    (fun c => semVal (cell 0 c) 0) (W2 m) (fun _ _ => rfl)

set_option backward.isDefEq.respectTransparency.types false in
/-- The output projection. -/
def reg2 : ℝ 2 :=
  Pipeline.RegionSeg.ofHeldIn (pcfgs (F := F)) adm (pdats m) () defs₀ 𝒱₀ L lv 2 (fun _ => 0) (Pipeline.ucRefs τ sig) (fun _ => iprop(emp)) (fun _ => iprop(emp))
    launch2.toP rfl (fun c => (body2 (W3 m) c).loose) (fun _ _ => rfl) (fun _ => rfl) (full m 2)
    (fun c => (alone (phi2 m c _)).1) (fun c => (alone (phi2 m c _)).2)
    (fun _ => 0) ⟨fun _ _ _ => mem_L _ _ _, fun c w s => lv_none c (staging2 w s), fun _ _ _ h => absurd h (Nat.lt_irrefl 0)⟩
    (fun c => semVal (cell 0 c) 0) (W3 m) (fun _ _ => rfl)

local notation "ℍ" => Pipeline.HostSeg (Name := ℕ) (U := UU) (pcfgs (F := F)) defs₀ 𝒱₀ L lv

/-- The rotary weights' rearrangement. -/
def host1 : ℍ := Pipeline.HostSeg.ofOps _ _ _ _ _ (Pipeline.ucRefs τ sig) hostOps1
  (fun op h => Pipeline.sub_ucRefs op ((List.forall_iff_forall_mem.mp hostOps1_sub) op h))
  (fun op h => (List.forall_iff_forall_mem.mp hostOps1_fresh) op h) (W1 m) rest
/-- The result's shape. -/
def host3 : ℍ := Pipeline.HostSeg.ofOps _ _ _ _ _ (Pipeline.ucRefs τ sig) hostOps3
  (fun op h => Pipeline.sub_ucRefs op ((List.forall_iff_forall_mem.mp hostOps3_sub) op h))
  (fun op h => (List.forall_iff_forall_mem.mp hostOps3_fresh) op h) (W4 m) rest

/-- The program as a list of stages. -/
def stages : List (Pipeline.Seg (pcfgs (F := F)) adm (pdats m) () defs₀ 𝒱₀ L lv) :=
  [.region (reg0 m), .host (host1 m), .region (reg1 m), .region (reg2 m), .host (host3 m)]

/-- A grid kernel's state at its start or its end, its arrays apart from the other buffers. -/
abbrev apart (A : Finset (DevRef τ sig)) (c : Dev nD) (V V' : Valuation τ sig (Elt F)) : sProp 𝕄 :=
  iprop(StableHlo.held (c.tc : Thread nD τ) A V ∗ emp ∗ (StableHlo.held (c.tc : Thread nD τ) (Pipeline.ucRefs τ sig \ A) V' ∗ semVal (cell 0 c) 0)
    ∗ ∃ W, owes (c : Thread nD τ) (0 : CellTallies nD τ sig Unit) W)

/-- All buffers, split for a grid kernel, and joined after it. -/
theorem split_apart {A : Finset (DevRef τ sig)} (hA : A ⊆ Pipeline.ucRefs τ sig) (c : Dev nD) (V : Valuation τ sig (Elt F)) :
    iprop(allHeld c V ∗ rest c) ⊢ apart A c V V := by
  unfold allHeld rest
  rw [StableHlo.held_sub_split (c.tc : Thread nD τ) hA V]
  iintro ⟨⟨Ha, Hu⟩, HO, -, Hb⟩
  isplitl [Ha]; · iexact Ha
  isplitr; · iempintro
  isplitl [Hu Hb]
  · isplitl [Hu] <;> iassumption
  iexact HO
/-- Buffers held in two parts are all held, where the second part did not change. -/
theorem join_apart {A : Finset (DevRef τ sig)} (hA : A ⊆ Pipeline.ucRefs τ sig) (c : Dev nD) {V V' : Valuation τ sig (Elt F)}
    (h : ∀ b ∈ Pipeline.ucRefs τ sig \ A, V' b = V b) : apart A c V' V ⊢ iprop(allHeld c V' ∗ rest c) := by
  unfold allHeld rest
  rw [StableHlo.held_sub_split (c.tc : Thread nD τ) hA V', StableHlo.held_congr (c.tc : Thread nD τ) h]
  iintro ⟨Ha, -, ⟨Hu, Hb⟩, HO⟩
  isplitl [Ha Hu]
  · isplitl [Ha] <;> iassumption
  isplitl [HO]; · iexact HO
  isplitr; · iempintro
  iexact Hb

/-- Attention starts from the buffers as `W2` says. -/
theorem reg1_pre (c : Dev nD) : iprop(allHeld c (W2 m c) ∗ rest c) ⊢ (reg1 m).pre c := by
  rw [show (reg1 m).pre c = apart (Pipeline.arrRefs (pcfgs (F := F) 1).spec) c (W2 m c) (W2 m c) from rfl]
  exact split_apart arrs1 c _
/-- It ends with them as `W3` says. -/
theorem reg1_post (c : Dev nD) : (reg1 m).post c ⊢ iprop(allHeld c (W3 m c) ∗ rest c) := by
  rw [show (reg1 m).post c = apart (Pipeline.arrRefs (pcfgs (F := F) 1).spec) c (afterRegion (pdats m 1 c) (W2 m c)) (W2 m c) from rfl, ← after1]
  exact join_apart arrs1 c (Pipeline.afterRegion_off (pdats m 1 c) (W2 m c) _)
/-- The projection starts from the buffers as `W3` says. -/
theorem reg2_pre (c : Dev nD) : iprop(allHeld c (W3 m c) ∗ rest c) ⊢ (reg2 m).pre c := by
  rw [show (reg2 m).pre c = apart (Pipeline.arrRefs (pcfgs (F := F) 2).spec) c (W3 m c) (W3 m c) from rfl]
  exact split_apart arrs2 c _
/-- It ends with them as `W4` says. -/
theorem reg2_post (c : Dev nD) : (reg2 m).post c ⊢ iprop(allHeld c (W4 m c) ∗ rest c) := by
  rw [show (reg2 m).post c = apart (Pipeline.arrRefs (pcfgs (F := F) 2).spec) c (afterRegion (pdats m 2 c) (W3 m c)) (W3 m c) from rfl, ← after2]
  exact join_apart arrs2 c (Pipeline.afterRegion_off (pdats m 2 c) (W3 m c) _)

/-- The program is its stages in a row. -/
theorem main_eq (c : Dev nD) : main (F := F) c = Pipeline.Seg.run (stages m) :=
  main_segs adm (pdats m) () 𝒱₀ L lv (host1 m) (host3 m) (reg0 m) (reg1 m) (reg2 m) rfl rfl c

end Cert.KernelIdeal.Pair

end
-- ==== Proof.Run.lean ====
/-
  The launch: every cell's record made, every token dealt, and the whole program run.
-/
module

public import proofs.«01_k».proof.Proof.Stages

@[expose] public section

noncomputable section

namespace Cert.KernelIdeal.Pair

open Cert.KernelIdeal Cert.KernelIdeal.Gen Cert.Sheets
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ UU ℕ

variable (m : (ℓ : Loc nD τ sig) → Buf (Elt F) ℓ) (ρ : Dev nD → PrngReg)

/-! ## Tokens -/

/-- One token for each of the seven cells of each device. -/
def allToks : Finset (GSem nD τ sig × ℕ × Unit) :=
  Finset.univ.map ⟨fun ck : Dev nD × Fin 7 => (cell ck.2 ck.1, 0, ()), fun _ _ h =>
    have e := cell_eq_iff.mp (congrArg Prod.fst h)
    Prod.ext e.2 e.1⟩

/-- The tokens of the cells of device `c`. -/
def ownToks (c : Dev nD) : sProp 𝕄 :=
  iprop(dutyTok EX (cell 0 c) 0 () ∗ dutyTok EX (cell 1 c) 0 () ∗ dutyTok EX (cell 2 c) 0 () ∗ dutyTok EX (cell 3 c) 0 ()
    ∗ dutyTok EX (cell 4 c) 0 () ∗ dutyTok EX (cell 5 c) 0 () ∗ dutyTok EX (cell 6 c) 0 ())

/-- All duty tokens, sorted by the device that pays. -/
theorem toks_by_device : bigSep allToks (fun x => (dutyTok EX x.1 x.2.1 x.2.2 : sProp 𝕄)) = bigSep Finset.univ fun c : Dev nD => ownToks c := by
  unfold allToks
  rw [bigSep_map, bigSep_univ_prod]
  exact bigSep_congr fun c _ => bigSep_univ_eq_bigSepL [0, 1, 2, 3, 4, 5, 6] (by decide) (by decide) _

/-- The tokens of a barrier and of the receiving cells go to the partner, who pays them. -/
theorem toks_dealt : (bigSep Finset.univ fun c : Dev nD => (ownToks c : sProp 𝕄)) ⊢ bigSep Finset.univ fun c : Dev nD => toks c := by
  unfold ownToks toks
  simp only [bigSep_sep']
  rw [bigSep_univ_equiv swap (fun c : Dev nD => (dutyTok EX (cell 0 c) 0 () : sProp 𝕄)), bigSep_univ_equiv swap (fun c : Dev nD => (dutyTok EX (cell 4 c) 0 () : sProp 𝕄)),
    bigSep_univ_equiv swap (fun c : Dev nD => (dutyTok EX (cell 5 c) 0 () : sProp 𝕄)), bigSep_univ_equiv swap (fun c : Dev nD => (dutyTok EX (cell 6 c) 0 () : sProp 𝕄))]
  iintro ⟨H0, H1, H2, H3, H4, H5, H6⟩
  isplitl [H0]; · iexact H0
  isplitl [H1 H2 H3]
  · isplitl [H1]; · iexact H1
    isplitl [H2]; · iexact H2
    iexact H3
  isplitl [H4]; · iexact H4
  isplitl [H5]; · iexact H5
  iexact H6

/-! ## Credits -/

/-- A device starts with credit for what its partner owes it. -/
theorem credit_at (k : Fin 7) (hk : owedKind k = true) (c : Dev nD) :
    tallyOn (cell k c) (launchCredit (Pipeline.owing due) 0 (cell k c)) = (tallyAt (cell k c) () (amt k) : CellTallies nD τ sig Unit) := by
  unfold tallyAt
  refine congrArg _ (Finsupp.ext fun u => ?_)
  cases u
  rw [Pipeline.launchCredit_owing, Finsupp.single_eq_same, Finset.sum_congr rfl fun d _ => due_cell k hk d c,
    Finset.sum_ite_eq' Finset.univ (mate c) fun _ => amt k, if_pos (Finset.mem_univ _)]

/-- The credit of what the partner owes, cell by cell. -/
theorem credits_intro (c : Dev nD) : (Pipeline.launchCred due c : sProp 𝕄) ⊢ credits c := by
  unfold Pipeline.launchCred credits
  rw [← credit_at 0 rfl c, ← credit_at 4 rfl c, ← credit_at 5 rfl c, ← credit_at 6 rfl c]
  have h : bigSep (Finset.univ.map (⟨fun k => sm (![0, 4, 5, 6] k), fun a b h => (by decide : Function.Injective (![0, 4, 5, 6] : Fin 4 → Fin 7)) (sm_inj h)⟩ : Fin 4 ↪ SemLoc sig))
      (fun s => (cred (tallyOn ((c : Thread nD τ), s) (launchCredit (Pipeline.owing due) 0 ((c : Thread nD τ), s))) : sProp 𝕄))
    = iprop(cred (tallyOn (cell 0 c) (launchCredit (Pipeline.owing due) 0 (cell 0 c))) ∗ cred (tallyOn (cell 4 c) (launchCredit (Pipeline.owing due) 0 (cell 4 c)))
      ∗ cred (tallyOn (cell 5 c) (launchCredit (Pipeline.owing due) 0 (cell 5 c))) ∗ cred (tallyOn (cell 6 c) (launchCredit (Pipeline.owing due) 0 (cell 6 c)))) := by
    rw [bigSep_map]
    exact bigSep_univ_eq_bigSepL [0, 1, 2, 3] (by decide) (by decide) _
  exact h ▸ bigSep_subset (Finset.subset_univ _)

/-! ## The launch -/

/-- A share of two things for every device is a share of each. -/
theorem unzip {A B : Dev nD → sProp 𝕄} : (bigSep Finset.univ fun c => iprop(A c ∗ B c)) ⊢ iprop(bigSep Finset.univ A ∗ bigSep Finset.univ B) :=
  Entails.of_eq (bigSep_sep' _ _ _)
/-- Two families over the devices as one. -/
theorem zip {A B : Dev nD → sProp 𝕄} : iprop(bigSep Finset.univ A ∗ bigSep Finset.univ B) ⊢ bigSep Finset.univ fun c => iprop(A c ∗ B c) :=
  Entails.of_eq (bigSep_sep' _ _ _).symm

/-- Barrier cells are not copy cells. -/
theorem cells_disjoint : Disjoint (barCells : Finset (GSem nD τ sig)) copyCells := by
  rw [Finset.disjoint_left]
  intro g h h'
  obtain ⟨c, -, rfl⟩ := Finset.mem_map.mp h
  obtain ⟨ck, -, e⟩ := Finset.mem_map.mp h'
  exact absurd (cell_eq_iff.mp e).1 (Fin.succ_ne_zero _)

/-- The initial ghost state: the pipelines' and the exchange's. -/
def u₀ : UU :=
  (initOf (Pipeline.cells (Pipeline.pin (pcfgs (F := F)) adm) cellOf_inj) (Pipeline.launchToks (Pipeline.pin (pcfgs (F := F)) adm) cellOf_inj),
    launchOf barCells copyCells allToks)

/-- The exchange's initial state, all of it, kept with the first device until it is dealt. -/
abbrev seed : sProp 𝕄 := BI.own (EX (launchOf barCells copyCells allToks))
/-- Device 0 carries the seed of all records. -/
def G (c : Dev nD) : sProp 𝕄 := if c = 0 then seed else iprop(emp)
/-- The seed out of what the devices carry. -/
theorem G_all : bigSep Finset.univ (G : Dev nD → sProp 𝕄) ⊢ seed := by
  have h : (G 0 : sProp 𝕄) = seed := if_pos rfl
  exact h ▸ bigSep_elim (Finset.mem_univ (0 : Dev nD))
/-- The seed handed to device 0. -/
theorem G_intro : (seed : sProp 𝕄) ⊢ bigSep Finset.univ (G : Dev nD → sProp 𝕄) := by
  rw [bigSep_univ_at _ (0 : Dev nD), show (G 0 : sProp 𝕄) = seed from if_pos rfl,
    bigSep_congr (s := Finset.univ.erase (0 : Dev nD)) (Φ := G) (Ψ := fun _ => (BI.emp : sProp 𝕄)) fun c hc => if_neg (Finset.ne_of_mem_erase hc), BI.bigSep_emp_const]
  iintro H
  isplitl [H]; · iexact H
  iempintro

/-- The state of device `c` before the first stage, and after the last. -/
abbrev T₀ (c : Dev nD) : sProp 𝕄 := iprop(allHeld c (V0 m c) ∗ Tk m c ∗ (∃ r, prngReg c r) ∗ ∃ W, owes (c : Thread nD τ) (due c) W)
/-- What a device holds at the end. -/
abbrev Tₙ (c : Dev nD) : sProp 𝕄 := iprop(allHeld c (W5 m c) ∗ semVal (cell 0 c) 0)

/-- The part of it that needs no dealing. -/
def plain (c : Dev nD) : sProp 𝕄 := iprop(allHeld c (V0 m c) ∗ credits c ∗ (∃ r, prngReg c r) ∗ ∃ W, owes (c : Thread nD τ) (due c) W)

/-- A device's start, from the records and what it is dealt. -/
theorem T₀_intro (κ : GSem nD τ sig → ℕ) (c : Dev nD) : iprop(records m κ ∗ (dealt c ∗ plain m c)) ⊢ T₀ m c := by
  unfold plain T₀ Tk
  iintro ⟨#HR, Hd, Hh, Hc, Hp, HO⟩
  isplitl [Hh]; · iexact Hh
  isplitl [Hd Hc]
  · isplitl [Hd]
    · iexists κ
      isplitr; · iexact HR
      iexact Hd
    iexact Hc
  isplitl [Hp] <;> iassumption

/-- The barrier is the one counter that outlives a kernel. -/
theorem barrier_only (c : Dev nD) : (unscopedSems0 c : sProp 𝕄) = semVal (cell 0 c) 0 := by
  unfold unscopedSems0
  rw [show (Finset.univ.filter fun s : SemLoc sig => ¬ s.isScoped .tc) = {sm 0} from by decide, BI.bigSep_singleton]
/-- The one counter that no region owns is the barrier. -/
theorem barrier_of : ∀ s : SemLoc sig, s.isScoped .tc = false → s = sm 0 := by decide

/-- What one device is given at launch. -/
abbrev given (c : Dev nD) : sProp 𝕄 :=
  iprop(unscopedBufs c (fun b => m ((c : Thread nD τ).loc b)) ∗ unscopedSems0 c ∗ owes (c : Thread nD τ) (due c) ∅ ∗ Pipeline.launchCred due c ∗ prngReg c (ρ c) ∗ G c)

/-- What a device is given: its buffers, its barrier, its part of the seed. -/
theorem given_split (c : Dev nD) : given m ρ c ⊢ iprop(plain m c ∗ (semVal (cell 0 c) 0 ∗ G c)) := by
  unfold given plain
  rw [barrier_only, show (unscopedBufs c (fun b => m ((c : Thread nD τ).loc b)) : sProp 𝕄) = allHeld c (V0 m c) from Pipeline.unscopedBufs_held c (V0 m c)]
  iintro ⟨Hh, Hb, HO, Hc, Hp, HG⟩
  ihave Hc := (credits_intro (F := F) c) $$ Hc
  isplitl [Hh Hc Hp HO]
  · isplitl [Hh]; · iexact Hh
    isplitl [Hc]; · iexact Hc
    isplitl [Hp]; · iexists (ρ c); iexact Hp
    iexists ∅; iexact HO
  isplitl [Hb] <;> iassumption

/-- The launch makes every device's first state. -/
theorem launch : iprop((bigSep Finset.univ fun c : Dev nD => given m ρ c) ∗ levAts L lv) ⊢ (|={Set.univ}=> bigSep Finset.univ (T₀ m) : sProp 𝕄) := by
  have hv : bigSep Finset.univ (fun c : Dev nD => (semVal (cell 0 c) 0 : sProp 𝕄)) = bigSep barCells (fun g => (semVal g 0 : sProp 𝕄)) :=
    (bigSep_map (s := Finset.univ) barEmb (Φ := fun g : GSem nD τ sig => (semVal g 0 : sProp 𝕄))).symm
  have ha : bigSep barCells (fun g => (atPos EX g 0 ∅ 0 : sProp 𝕄)) = bigSep Finset.univ (fun c : Dev nD => (atPos EX (cell 0 c) 0 ∅ 0 : sProp 𝕄)) :=
    bigSep_map (s := Finset.univ) barEmb (Φ := fun g : GSem nD τ sig => (atPos EX g 0 ∅ 0 : sProp 𝕄))
  have ho : bigSep copyCells (fun g => (openTok EX g : sProp 𝕄)) = bigSep Finset.univ (fun c : Dev nD => bigSep Finset.univ fun k : Fin 6 => (openTok EX (cell k.succ c) : sProp 𝕄)) := by
    rw [bigSep_map, bigSep_univ_prod]; rfl
  iintro ⟨H, -⟩
  ihave H := (show (bigSep Finset.univ fun c : Dev nD => given m ρ c) ⊢ (bigSep Finset.univ fun c : Dev nD => iprop(plain m c ∗ (semVal (cell 0 c) 0 ∗ G c)) : sProp 𝕄) from
    bigSep_mono fun c _ => given_split m ρ c) $$ H
  ihave H := unzip $$ H
  icases H with ⟨HB, H⟩
  ihave H := unzip $$ H
  icases H with ⟨Hv, HG⟩
  ihave Hu := (G_all (F := F)) $$ HG
  ihave Hv := (Entails.of_eq hv) $$ Hv
  imod (Rounds.fund_launch EX (plan m) cells_disjoint (fun g _ h => h) allToks) $$ [Hv Hu] with ⟨%κ, -, #HI, #Hr, Ha, Ho, Ht⟩
  · isplitl [Hv] <;> iassumption
  imodintro
  iapply (bigSep_with_persistent (R := records m κ) (Φ := fun c => iprop(dealt c ∗ plain m c)) fun c _ => T₀_intro m κ c)
  isplitr
  · unfold records
    isplitr; · iexact HI
    iexact Hr
  iapply zip
  isplitr [HB]
  · unfold dealt
    iapply zip
    isplitl [Ha]; · iapply (Entails.of_eq ha); iexact Ha
    iapply zip
    isplitl [Ho]; · iapply (Entails.of_eq ho); iexact Ho
    iapply (toks_dealt (F := F))
    iapply (Entails.of_eq (toks_by_device (F := F)))
    iexact Ht
  · iexact HB

/-- The initial ghost state, cut into the parts that the launch deals out. -/
theorem init_split : (ownU (u₀ (F := F)) : sProp 𝕄)
    ⊢ |={Set.univ}=> iprop(BI.own (EP (initOf (Pipeline.cells (Pipeline.pin (pcfgs (F := F)) adm) cellOf_inj) (Pipeline.launchToks (Pipeline.pin (pcfgs (F := F)) adm) cellOf_inj)))
      ∗ bigSep Finset.univ G) := by
  unfold u₀
  iintro Hu
  ihave H := (ownU_pair _ _) $$ Hu
  icases H with ⟨HP, HX⟩
  imodintro
  isplitl [HP]; · iexact HP
  iapply (G_intro (F := F))
  iexact HX

/-- A buffer that outlives the kernels is among those read at the end. -/
theorem read_at {c : Dev nD} {s : MemSt nD τ sig (Elt F)} (h : ∀ b ∈ Pipeline.ucRefs τ sig, s.mem ((c : Thread nD τ).1, b) = W5 m c b)
    (r : Ref sig .tc) (hr : r.isScoped = false) : s.mem ((c : Thread nD τ).loc r) = W5 m c r :=
  h (Proc.devRef .tc r) (Finset.mem_filter.mpr ⟨StableHlo.devRef_mem_tcRefs r, by simpa using hr⟩)

set_option backward.isDefEq.respectTransparency.types false in
/-- Every run ends; each buffer then holds what the stages compute, and every counter is at zero. -/
theorem run_all : θ_run defs (onTc (τ := τ) (main (F := F))) ⟨m, fun _ => 0, ρ⟩
    (fun r => (∀ (c : Dev nD), ∀ b ∈ Pipeline.ucRefs τ sig, r.2.mem ((c : Thread nD τ).1, b) = W5 m c b) ∧ r.2.sem = fun _ => 0) :=
  Pipeline.θ_run_regions_kit_sems (pcfgs (F := F)) adm (pdats m) () cellOf_inj EP defs₀ 𝒱₀ L lv m ρ main (stages m)
    (fun c Q => by rw [main_eq m c])
    (by simp only [stages, Pipeline.Seg.pipes_host, Pipeline.Seg.pipes_region, Pipeline.Seg.pipes_nil]; decide)
    (O₀ := due) (hL := L_of_ne) (G := G) (u₀ := u₀) (hu₀ := init_split)
    (T₀ := T₀ m) (Tₙ := Tₙ m)
    (hch := by
      refine ⟨fun c => reg0_pre m c, fun c => reg0_post m c, fun c => reg1_pre m c, fun c => (reg1_post m c).trans (reg2_pre m c), fun c => reg2_post m c, fun c => ?_⟩
      show iprop(allHeld c (W5 m c) ∗ rest c) ⊢ iprop(Tₙ m c ∗ ∃ W, owes (c : Thread nD τ) (0 : CellTallies nD τ sig Unit) W)
      unfold rest
      iintro ⟨Hh, HO, -, Hb⟩
      isplitl [Hh Hb]
      · isplitl [Hh] <;> iassumption
      iexact HO)
    (hinit := launch m ρ)
    (QY := fun c s => (∀ b ∈ Pipeline.ucRefs τ sig, s.mem ((c : Thread nD τ).1, b) = W5 m c b) ∧ s.sem (cell 0 c) = 0)
    (hfin := fun c s' => by
      dsimp only [Tₙ]
      unfold allHeld StableHlo.held
      iintro ⟨⟨Hh, Hb⟩, HSI⟩
      icombine HSI Hb gives %hb
      ihave Hr := (pointsTo_read_all (Pipeline.ucRefs τ sig) (fun b => ((c : Thread nD τ).1, b)) (W5 m c) s') $$ [Hh HSI]
      · isplitl [Hh] <;> iassumption
      icases Hr with ⟨%h, HSI⟩
      imodintro
      isplitr
      · ipureintro
        exact ⟨h, by simpa using hb⟩
      iexact HSI)
    (hQ := fun s h hs => ⟨fun c => (h c).1, sem_eq_zero hs fun c s hsm => by
      obtain rfl := barrier_of s hsm
      exact (h c).2⟩)

end Cert.KernelIdeal.Pair

end
-- ==== Proof.Frames.lean ====
/-
  The frames: every run of each program ends, leaves its arguments alone and every counter at zero.
-/
module

public import proofs.«01_k».proof.Defs
public import proofs.«01_k».proof.Proof.Run
public import proofs.«01_k».proof.Proof.Gen.Kernel
public import proofs.«01_k».proof.Proof.Gen.ReferenceIdeal
public import proofs.«01_k».proof.Proof.Gen.ReferenceIdeal.Run
public import Idealize.ShloMosaic.Lib.Quiescent

@[expose] public section

noncomputable section

namespace Cert.KernelIdeal.Pair

open Cert.KernelIdeal Cert.KernelIdeal.Gen
open Idealize.ShloMosaic
open Idealize.ShloMosaic.TcCoe
open Idealize.SL.Sem

variable {F : FTy → Type} [FloatOps F]
variable (m : (ℓ : Loc nD τ sig) → Buf (Elt F) ℓ) (ρ : Dev nD → PrngReg)

/-- None of the eight arguments is written by any stage. -/
theorem args_kept (c : Dev nD) : W5 m c main_arg0 = m ((c : Thread nD τ).loc main_arg0) ∧ W5 m c main_arg1 = m ((c : Thread nD τ).loc main_arg1)
    ∧ W5 m c main_arg2 = m ((c : Thread nD τ).loc main_arg2) ∧ W5 m c main_arg3 = m ((c : Thread nD τ).loc main_arg3)
    ∧ W5 m c main_arg4 = m ((c : Thread nD τ).loc main_arg4) ∧ W5 m c main_arg5 = m ((c : Thread nD τ).loc main_arg5)
    ∧ W5 m c main_arg6 = m ((c : Thread nD τ).loc main_arg6) ∧ W5 m c main_arg7 = m ((c : Thread nD τ).loc main_arg7) := by
  refine ⟨?_, ?_, ?_, ?_, ?_, ?_, ?_, ?_⟩ <;> exact kept m c _ (by decide) (by decide) (by decide) (by decide) (by decide)

/-- The run, read at the arguments, the result and the counters. -/
theorem run_main : θ_run defs (onTc (τ := τ) (main (F := F))) ⟨m, fun _ => 0, ρ⟩
    (fun r => (∀ c : Dev nD, r.2.mem ((c : Thread nD τ).loc main_v6) = W5 m c main_v6
      ∧ r.2.mem ((c : Thread nD τ).loc main_arg0) = m ((c : Thread nD τ).loc main_arg0) ∧ r.2.mem ((c : Thread nD τ).loc main_arg1) = m ((c : Thread nD τ).loc main_arg1)
      ∧ r.2.mem ((c : Thread nD τ).loc main_arg2) = m ((c : Thread nD τ).loc main_arg2) ∧ r.2.mem ((c : Thread nD τ).loc main_arg3) = m ((c : Thread nD τ).loc main_arg3)
      ∧ r.2.mem ((c : Thread nD τ).loc main_arg4) = m ((c : Thread nD τ).loc main_arg4) ∧ r.2.mem ((c : Thread nD τ).loc main_arg5) = m ((c : Thread nD τ).loc main_arg5)
      ∧ r.2.mem ((c : Thread nD τ).loc main_arg6) = m ((c : Thread nD τ).loc main_arg6) ∧ r.2.mem ((c : Thread nD τ).loc main_arg7) = m ((c : Thread nD τ).loc main_arg7))
      ∧ r.2.sem = fun _ => 0) :=
  (θ_run defs _ _).mono (fun _ h => ⟨fun c =>
    have k := args_kept m c
    ⟨read_at m (h.1 c) main_v6 rfl, (read_at m (h.1 c) main_arg0 rfl).trans k.1, (read_at m (h.1 c) main_arg1 rfl).trans k.2.1,
      (read_at m (h.1 c) main_arg2 rfl).trans k.2.2.1, (read_at m (h.1 c) main_arg3 rfl).trans k.2.2.2.1, (read_at m (h.1 c) main_arg4 rfl).trans k.2.2.2.2.1,
      (read_at m (h.1 c) main_arg5 rfl).trans k.2.2.2.2.2.1, (read_at m (h.1 c) main_arg6 rfl).trans k.2.2.2.2.2.2.1, (read_at m (h.1 c) main_arg7 rfl).trans k.2.2.2.2.2.2.2⟩, h.2⟩)
    (run_all m ρ)

end Cert.KernelIdeal.Pair

namespace Cert.Proof

open Idealize.ShloMosaic Idealize.SL.Sem

/-- The idealized kernel's frame. -/
theorem frame_ideal : Cert.quiescent_KernelIdeal (hKernelIdeal := Cert.KernelIdeal.Gen.facts) := fun m ρ _ =>
  (θ_run Cert.KernelIdeal.defs _ _).mono (fun _ h => ⟨fun c => (h.1 c).2, h.2⟩) (Cert.KernelIdeal.Pair.run_main (F := Ideal) m ρ)

set_option smartUnfolding false in
/-- The kernel and the idealized kernel have one table of bodies. -/
theorem same_bodies : Cert.Kernel.defs₀ (F := Bits) = Cert.KernelIdeal.defs₀ (F := Bits) := by
  unfold Cert.Kernel.defs₀ Cert.KernelIdeal.defs₀
  congr 1

/-- So their tables of kernels are one. -/
theorem same_defs : Cert.Kernel.defs (F := Bits) = Cert.KernelIdeal.defs (F := Bits) := congrArg (Pipeline.defs Cert.KernelIdeal.pcfgs) same_bodies

/-- The kernel's frame: it has the idealized kernel's text. -/
theorem frame_kernel : Cert.quiescent_Kernel (hKernel := Cert.Kernel.Gen.facts) := fun m ρ _ => by
  rw [same_defs]
  exact (θ_run Cert.KernelIdeal.defs _ _).mono (fun _ h => ⟨fun c => (h.1 c).2, h.2⟩) (Cert.KernelIdeal.Pair.run_main (F := Bits) m ρ)

/-- The reference's frame: it has no counters at all. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩) (Cert.ReferenceIdeal.Value.run m ρ)

end Cert.Proof

end
-- ==== Proof.Heads.lean ====
/-
  One attention output, written over plain coordinates; the kernel's attention body and the reference both compute it.
-/
module

public import proofs.«01_k».proof.Proof.Gen.KernelIdeal.Skeleton
public import proofs.«01_k».proof.Proof.Gen.ReferenceIdeal.Run
public import Idealize.ShloMosaic.Lib.Pointwise

@[expose] public section

set_option maxRecDepth 16384

noncomputable section

namespace Cert.Heads

open Idealize.ShloMosaic

/-- The score of a query row against key row `t`: content part plus rotary part, scaled. -/
def score (x : Fin 2048 → EReal) (wq : Fin 2048 → Fin 128 → EReal) (wr : Fin 2048 → Fin 32 → EReal)
    (k : Fin 512 → Fin 128 → EReal) (r : Fin 512 → Fin 32 → EReal) (t : Fin 512) : EReal :=
  (∑ d, (∑ e, x e * wq e d) * k t d + ∑ d, (∑ e, x e * wr e d) * r t d) * Ideal.ofBits .f32 0x3DA1E89B#32

/-- A score less the row's greatest, exponentiated. -/
def weight (s : Fin 512 → EReal) (t : Fin 512) : EReal :=
  Ideal.exp (s t - Finset.univ.fold max (Ideal.ofBits .f32 0xFF800000#32) s)

/-- Values averaged by the normalised weights. -/
def mix (s v : Fin 512 → EReal) : EReal := ∑ t, Ideal.div (weight s t) (∑ u, weight s u) * v t

end Cert.Heads

namespace Cert.KernelIdeal.Pair

open Cert.KernelIdeal Cert.KernelIdeal.Gen Cert.Heads
open Idealize.ShloMosaic

/-- The attention body at one row and one column of its head. -/
theorem attention_at (x : Vec Ideal S1x512x2048 .f32) (wq : Vec Ideal S2048x128 .f32) (wr : Vec Ideal S1x2048x32 .f32) (k : Vec Ideal S512x128 .f32)
    (r : Vec Ideal S512x32 .f32) (v : Vec Ideal S512x128 .f32) (s : Fin 512) (d : Fin 128) :
    k1_pay1 x wq wr k r v (ix2 s d)
      = mix (score (fun e => x (ix3 0 s e)) (fun e d => wq (ix2 e d)) (fun e d => wr (ix3 0 e d)) (fun t d => k (ix2 t d)) (fun t d => r (ix2 t d)))
          (fun t => v (ix2 t d)) := by
  pointwise [k1_pay1]
  rfl

/-- The projection body at one entry of its block. -/
theorem projection_at (o : Vec Ideal S512x2048 .f32) (w : Vec Ideal S2048x512 .f32) (s t : Fin 512) :
    k2_pay1 o w (ix2 s t) = ∑ e : Fin 2048, o (ix2 s e) * w (ix2 e t) := by
  pointwise [k2_pay1]

end Cert.KernelIdeal.Pair

namespace Cert.ReferenceIdeal.Whole

open Cert.ReferenceIdeal Cert.ReferenceIdeal.Gen Cert.Heads
open Idealize.ShloMosaic Idealize.ShloMosaic.TcCoe

variable (x : FVec Ideal S2x512x2048 .f32) (wd : FVec Ideal S2048x256 .f32) (wk wv : FVec Ideal S256x2048 .f32) (wq : FVec Ideal S2048x2048 .f32)
  (wr : FVec Ideal S2048x512 .f32) (wkr : FVec Ideal S2048x32 .f32) (wo : FVec Ideal S2048x2048 .f32)

/-- Keys or values: the activations compressed, then projected up. -/
def up (w : FVec Ideal S256x2048 .f32) : FVec Ideal S2x512x2048 .f32 :=
  Host.dotGeneral dot_S2x512x256_S256x2048_S2x512x2048_2_0_01_1_n_n none (Host.dotGeneral dot_S2x512x2048_S2048x256_S2x512x256_2_0_01_1_n_n none x wd) w

/-- The scores of every head. -/
def scores (k : FVec Ideal S2x512x2048 .f32) : FVec Ideal S2x16x512x512 .f32 :=
  mulf (addf (Host.dotGeneral dot_S2x512x16x128_S2x512x16x128_S2x16x512x512_3_3_1_1_02_02 none
      (shapeCast S2x512x16x128 (Host.dotGeneral dot_S2x512x2048_S2048x2048_S2x512x2048_2_0_01_1_n_n none x wq) shapeCasts_S2x512x2048_S2x512x16x128)
      (shapeCast S2x512x16x128 k shapeCasts_S2x512x2048_S2x512x16x128))
    (Host.dotGeneral dot_S2x512x16x32_S2x512x16x32_S2x16x512x512_3_3_1_1_02_02 none
      (shapeCast S2x512x16x32 (Host.dotGeneral dot_S2x512x2048_S2048x512_S2x512x512_2_0_01_1_n_n none x wr) shapeCasts_S2x512x512_S2x512x16x32)
      (broadcastInDim S2x512x16x32 ![0, 1, 2, 3] bcast_S2x512x1x32_S2x512x16x32_0_1_2_3
        (shapeCast S2x512x1x32 (Host.dotGeneral dot_S2x512x2048_S2048x32_S2x512x32_2_0_01_1_n_n none x wkr) shapeCasts_S2x512x32_S2x512x1x32))))
    (broadcastInDim S2x16x512x512 ![] bcast_S_S2x16x512x512 (constant S_ .f32 0x3DA1E89B#32))

/-- Scores less their row's greatest, exponentiated. -/
def weights (s : FVec Ideal S2x16x512x512 .f32) : FVec Ideal S2x16x512x512 .f32 :=
  Host.exp (subf s (broadcastInDim S2x16x512x512 ![0, 1, 2, 3] bcast_S2x16x512x1_S2x16x512x512_0_1_2_3
    (broadcastInDim S2x16x512x1 ![0, 1, 2] bcast_S2x16x512_S2x16x512x1_0_1_2
      (Host.reduce FloatOps.maximumf s (constant S_ .f32 0xFF800000#32) reducesTo_S2x16x512x512_S2x16x512_d3 h_S_))))

/-- The heads' outputs, side by side. -/
def mixed (s : FVec Ideal S2x16x512x512 .f32) (v : FVec Ideal S2x512x2048 .f32) : FVec Ideal S2x512x2048 .f32 :=
  shapeCast S2x512x2048 (transpose S2x512x16x128 [0, 3, 1, 2] (Host.dotGeneral dot_S2x512x16x128_S2x16x512x512_S2x16x128x512_1_3_3_2_02_01 none
    (shapeCast S2x512x16x128 v shapeCasts_S2x512x2048_S2x512x16x128)
    (Host.divf (weights s) (broadcastInDim S2x16x512x512 ![0, 1, 2, 3] bcast_S2x16x512x1_S2x16x512x512_0_1_2_3
      (broadcastInDim S2x16x512x1 ![0, 1, 2] bcast_S2x16x512_S2x16x512x1_0_1_2
        (Host.reduceAdd (weights s) (constant S_ .f32 0x00000000#32) reducesTo_S2x16x512x512_S2x16x512_d3 h_S_)))))
    transposes_S2x16x128x512_S2x512x16x128_0_3_1_2) shapeCasts_S2x512x16x128_S2x512x2048

/-- The reference's result. -/
def out : FVec Ideal S2x512x2048 .f32 :=
  Host.dotGeneral dot_S2x512x2048_S2048x2048_S2x512x2048_2_0_01_1_n_n none (mixed (scores x wq wr wkr (up x wd wk)) (up x wd wv)) wo

/-- It is what the reference's run ends with. -/
theorem result (m : (ℓ : Loc nD τ sig) → Buf (Elt Ideal) ℓ) (c : Dev nD) :
    Value.res_main_v29 m c = out (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))
      (m ((c : Thread nD τ).loc main_arg7)) := rfl

/-- Column `d` of head `h`, among all columns. -/
abbrev col (h : Fin 16) (d : Fin 128) : Fin 2048 := ⟨h.val * 128 + d.val, by omega⟩
/-- Rotary column `d` of head `h`, among all rotary columns. -/
abbrev rcol (h : Fin 16) (d : Fin 32) : Fin 512 := ⟨h.val * 32 + d.val, by omega⟩

/-- Keys or values at an entry. -/
theorem up_at (w : FVec Ideal S256x2048 .f32) (b : Fin 2) (s : Fin 512) (n : Fin 2048) :
    up x wd w (ix3 b s n) = ∑ k : Fin 256, (∑ e : Fin 2048, x (ix3 b s e) * wd (ix2 e k)) * w (ix2 k n) := by
  pointwise [up]

/-- A score of the reference is the plain score of its rows. -/
theorem scores_at (k : FVec Ideal S2x512x2048 .f32) (b : Fin 2) (h : Fin 16) (s t : Fin 512) :
    scores x wq wr wkr k (ix4 b h s t)
      = score (fun e => x (ix3 b s e)) (fun e d => wq (ix2 e (col h d))) (fun e d => wr (ix2 e (rcol h d)))
          (fun t d => k (ix3 b t (col h d))) (fun t d => ∑ e : Fin 2048, x (ix3 b t e) * wkr (ix2 e d)) t := by
  pointwise [scores]
  rfl

/-- A weight of the reference is the plain weight of its row of scores. -/
theorem weights_at (sc : FVec Ideal S2x16x512x512 .f32) (b : Fin 2) (h : Fin 16) (s t : Fin 512) :
    weights sc (ix4 b h s t) = weight (fun t => sc (ix4 b h s t)) t := by
  pointwise [weights]
  rfl

/-- A head's output in the reference is the plain mix of its values. -/
theorem mixed_at (sc : FVec Ideal S2x16x512x512 .f32) (v : FVec Ideal S2x512x2048 .f32) (b : Fin 2) (h : Fin 16) (s : Fin 512) (d : Fin 128) :
    mixed sc v (ix3 b s (col h d)) = mix (fun t => sc (ix4 b h s t)) (fun t => v (ix3 b t (col h d))) := by
  have hh : (⟨(h.val * 128 + d.val) / 128, by omega⟩ : Fin 16) = h := Fin.ext (by show (h.val * 128 + d.val) / 128 = h.val; omega)
  have hc : (⟨(h.val * 128 + d.val) / 128 * 128 + (h.val * 128 + d.val) % 128, by omega⟩ : Fin 2048) = col h d :=
    Fin.ext (by show (h.val * 128 + d.val) / 128 * 128 + (h.val * 128 + d.val) % 128 = h.val * 128 + d.val; omega)
  unfold mix
  pointwise [mixed, weights_at]
  refine Finset.sum_congr rfl fun t _ => ?_
  exact (mul_comm _ _).trans (congrArg₂ (· * ·)
    (congrArg (fun h' : Fin 16 => Ideal.div (weight (fun t => sc (ix4 b h' s t)) t) (∑ u, weight (fun t => sc (ix4 b h' s t)) u)) hh)
    (congrArg (fun n : Fin 2048 => v (ix3 b t n)) hc))

/-- The result at an entry. -/
theorem out_at (b : Fin 2) (s : Fin 512) (n : Fin 2048) :
    out x wd wk wv wq wr wkr wo (ix3 b s n) = ∑ e : Fin 2048, mixed (scores x wq wr wkr (up x wd wk)) (up x wd wv) (ix3 b s e) * wo (ix2 e n) := by
  pointwise [out]

end Cert.ReferenceIdeal.Whole

end
-- ==== Proof.Shares.lean ====
/-
  What the exchange leaves, at an entry: keys and values are sums over both devices' shares of the compressed columns.
-/
module

public import proofs.«01_k».proof.Proof.Pair
public import Idealize.ShloMosaic.Lib.Pointwise

@[expose] public section

set_option maxRecDepth 16384

noncomputable section

namespace Cert.KernelIdeal.Pair

open Cert.KernelIdeal Cert.KernelIdeal.Gen Cert.Sheets
open Idealize.ShloMosaic Idealize.ShloMosaic.TcCoe

/-- Row `s` of batch entry `b`, among all rows. -/
abbrev row (b : Fin 2) (s : Fin 512) : Fin 1024 := ⟨b.val * 512 + s.val, by omega⟩

section Parts

variable {α : Type} {n : Nat}

/-- An array of two row blocks at an entry. -/
theorem rows_at (w : Fin 2 → (⟨2, ![512, n]⟩ : Shape).Idx → α) (b : Fin 2) (s : Fin 512) (k : Fin n) : rows w (ix2 (row b s) k) = w b (ix2 s k) := by
  show w ⟨(b.val * 512 + s.val) / 512, _⟩ (ix2 ⟨(b.val * 512 + s.val) % 512, _⟩ k) = _
  have hb : (⟨(b.val * 512 + s.val) / 512, by omega⟩ : Fin 2) = b := Fin.ext (by show (b.val * 512 + s.val) / 512 = b.val; omega)
  have hs : (⟨(b.val * 512 + s.val) % 512, by omega⟩ : Fin 512) = s := Fin.ext (by show (b.val * 512 + s.val) % 512 = s.val; omega)
  rw [hb, hs]

/-- An array of four column blocks at an entry. -/
theorem cols_at (w : Fin 4 → (⟨2, ![n, 512]⟩ : Shape).Idx → α) (r : Fin n) (y : Fin 2048) :
    cols w (ix2 r y) = w ⟨y.val / 512, by omega⟩ (ix2 r ⟨y.val % 512, by omega⟩) := rfl

/-- A block read at an entry reads the array at the entry's place. -/
theorem part_at (w : (⟨2, ![n, 2048]⟩ : Shape).Idx → α) (o : ℕ) (inb) (ho : o + 512 ≤ 2048) (k : Fin n) (l : Fin 512) :
    VecWindow.window (s := ⟨2, ![n, 2048]⟩) w ![0, o] ![n, 512] inb (ix2 k l) = w (ix2 k ⟨o + l.val, by omega⟩) :=
  congrArg w (funext (Fin.forall_fin_two.mpr ⟨Fin.ext (by show 0 + 1 * k.val = k.val; omega), Fin.ext (by show o + 1 * l.val = o + l.val; omega)⟩))

/-- One batch entry of the activations at an entry. -/
theorem batch_at (x : (⟨3, ![2, 512, 2048]⟩ : Shape).Idx → α) (b : Fin 2) (inb) (u : Fin 1) (s : Fin 512) (e : Fin 2048) :
    VecWindow.window (s := ⟨3, ![2, 512, 2048]⟩) x ![b.val, 0, 0] ![1, 512, 2048] inb (ix3 u s e) = x (ix3 b s e) :=
  congrArg x (funext fun a => by
    fin_cases a
    · exact Fin.ext (by show b.val + 1 * u.val = b.val; omega)
    · exact Fin.ext (by show 0 + 1 * s.val = s.val; omega)
    · exact Fin.ext (by show 0 + 1 * e.val = e.val; omega))

end Parts

/-- The device's compressed columns. -/
theorem compressed_at (x : Vec Ideal S2x512x2048 .f32) (d : Vec Ideal S2048x128 .f32) (b : Fin 2) (s : Fin 512) (k : Fin 128) :
    cOf x d (ix2 (row b s) k) = ∑ e : Fin 2048, x (ix3 b s e) * d (ix2 e k) := by
  have h0 : ∀ e : Fin 2048, batch0 x (ix3 (0 : Fin 1) s e) = x (ix3 0 s e) := fun e => batch_at x 0 _ 0 s e
  have h1 : ∀ e : Fin 2048, batch1 x (ix3 (0 : Fin 1) s e) = x (ix3 1 s e) := fun e => batch_at x 1 _ 0 s e
  unfold cOf
  rw [rows_at]
  fin_cases b
  · show k0_pay3 (batch0 x) d (ix2 s k) = _
    pointwise [k0_pay3]
    exact Finset.sum_congr rfl fun e _ => congrArg (· * _) (h0 e)
  · show k0_pay6 (k0_pay4 (batch1 x)) (k0_pay5 d) (ix2 s k) = _
    pointwise [k0_pay6, k0_pay5, k0_pay4]
    exact Finset.sum_congr rfl fun e _ => congrArg (· * _) (h1 e)

/-- One block of keys or values at an entry. -/
theorem both_at (c : Vec Ideal S1024x128 .f32) (w : Vec Ideal S128x512 .f32) (c' : Vec Ideal S1024x128 .f32) (w' : Vec Ideal S128x512 .f32) (r : Fin 1024) (l : Fin 512) :
    both c w c' w' (ix2 r l) = ∑ k : Fin 128, c (ix2 r k) * w (ix2 k l) + ∑ k : Fin 128, c' (ix2 r k) * w' (ix2 k l) := by
  pointwise [both, k0_pay17, k0_pay7]

/-- Keys or values at an entry: the device's own part plus the partner's. -/
theorem kv_at (c : Vec Ideal S1024x128 .f32) (w : Vec Ideal S128x2048 .f32) (c' : Vec Ideal S1024x128 .f32) (w' : Vec Ideal S128x2048 .f32) (r : Fin 1024) (y : Fin 2048) :
    kvOf c w c' w' (ix2 r y) = ∑ k : Fin 128, c (ix2 r k) * w (ix2 k y) + ∑ k : Fin 128, c' (ix2 r k) * w' (ix2 k y) := by
  have key : ∀ (o : ℕ) (inb) (ho : o + 512 ≤ 2048) (l : Fin 512),
      both c (VecWindow.window w ![0, o] S128x512.size inb) c' (VecWindow.window w' ![0, o] S128x512.size inb) (ix2 r l)
        = ∑ k : Fin 128, c (ix2 r k) * w (ix2 k ⟨o + l.val, by omega⟩) + ∑ k : Fin 128, c' (ix2 r k) * w' (ix2 k ⟨o + l.val, by omega⟩) := fun o inb ho l => by
    rw [both_at]
    exact congrArg₂ (· + ·) (Finset.sum_congr rfl fun k _ => congrArg (_ * ·) (part_at w o inb ho k l))
      (Finset.sum_congr rfl fun k _ => congrArg (_ * ·) (part_at w' o inb ho k l))
  have place : ∀ (o : ℕ) (l : Fin 512) (h : o + l.val < 2048), o + l.val = y.val → (⟨o + l.val, h⟩ : Fin 2048) = y := fun _ _ _ e => Fin.ext e
  unfold kvOf
  rw [cols_at]
  obtain ⟨j, hj⟩ : ∃ j : Fin 4, j = ⟨y.val / 512, by omega⟩ := ⟨_, rfl⟩
  have hy : y.val = j.val * 512 + y.val % 512 := by rw [hj]; show y.val = y.val / 512 * 512 + y.val % 512; omega
  rw [← hj]
  fin_cases j
  · refine (key 0 _ (by omega) _).trans ?_; rw [place 0 _ _ (by simpa using hy.symm)]
  · refine (key 512 _ (by omega) _).trans ?_; rw [place 512 _ _ (by simpa using hy.symm)]
  · refine (key 1024 _ (by omega) _).trans ?_; rw [place 1024 _ _ (by simpa using hy.symm)]
  · refine (key 1536 _ (by omega) _).trans ?_; rw [place 1536 _ _ (by simpa using hy.symm)]

variable (m : (ℓ : Loc nD τ sig) → Buf (Elt Ideal) ℓ)

/-- The rotary keys at an entry. -/
theorem rotary_at (c : Dev nD) (b : Fin 2) (s : Fin 512) (k : Fin 32) :
    rAt m c (ix2 (row b s) k) = ∑ e : Fin 2048, argX m c (ix3 b s e) * argR m c (ix2 e k) := by
  have h0 : ∀ e : Fin 2048, batch0 (argX m c) (ix3 (0 : Fin 1) s e) = argX m c (ix3 0 s e) := fun e => batch_at _ 0 _ 0 s e
  have h1 : ∀ e : Fin 2048, batch1 (argX m c) (ix3 (0 : Fin 1) s e) = argX m c (ix3 1 s e) := fun e => batch_at _ 1 _ 0 s e
  unfold rAt
  rw [rows_at]
  fin_cases b
  · show k0_pay15 (batch0 (argX m c)) (argR m c) (ix2 s k) = _
    pointwise [k0_pay15]
    exact Finset.sum_congr rfl fun e _ => congrArg (· * _) (h0 e)
  · show k0_pay16 (batch1 (argX m c)) (argR m c) (ix2 s k) = _
    pointwise [k0_pay16]
    exact Finset.sum_congr rfl fun e _ => congrArg (· * _) (h1 e)

end Cert.KernelIdeal.Pair

end
-- ==== Proof.Value.lean ====
/-
  What the kernel's stages hold, entry by entry, when the devices hold blocks of whole weights: the reference's values.
-/
module

public import proofs.«01_k».proof.Proof.Stages
public import proofs.«01_k».proof.Proof.Heads
public import proofs.«01_k».proof.Proof.Shares
public import Idealize.ShloMosaic.Lib.Layout
public import Idealize.ShloMosaic.Lib.Pipeline.ValueKit

@[expose] public section

set_option maxRecDepth 16384

noncomputable section

namespace Cert.KernelIdeal.Pair

open Cert.KernelIdeal Cert.KernelIdeal.Gen Cert.Sheets Cert.Heads
open Cert.ReferenceIdeal.Whole (up scores mixed out col rcol up_at scores_at mixed_at out_at)
open Idealize.ShloMosaic Idealize.ShloMosaic.TcCoe
open Idealize.ShloMosaic.Pipeline (Dat afterRegion afterRegion_arr afterRegion_keeps arrRef)

/-! ## The halves of the compressed columns -/

/-- Compressed column `k` of device `c`'s half, among all 256. -/
abbrev half (c : Dev nD) (k : Fin 128) : Fin 256 := ⟨c.val / 4 * 128 + k.val, by have : c.val < 8 := c.isLt; omega⟩

/-- Which half a device holds. -/
theorem which (c : Dev nD) : Layout.meshLin [2, 2, 2] c.val [0] = c.val / 4 := by revert c; decide

/-- A device's block of a matrix cut by columns, at an entry. -/
theorem across_at {α : Type} (A : (⟨2, ![2048, 256]⟩ : Shape).Idx → α) (c : Dev nD) (e : Fin 2048) (k : Fin 128) :
    (Layout.blockN ⟨2, ![2048, 128]⟩ ⟨2, ![2048, 256]⟩ (Layout.meshBlock [2, 2, 2] ![[], [0]] c) A) (ix2 e k) = A (ix2 e (half c k)) :=
  congrArg A (funext (Fin.forall_fin_two.mpr
    ⟨Fin.ext (by show 0 * 2048 + e.val = e.val; omega), Fin.ext (by show Layout.meshLin [2, 2, 2] c.val [0] * 128 + k.val = c.val / 4 * 128 + k.val; rw [which])⟩))

/-- A device's block of a matrix cut by rows, at an entry. -/
theorem down_at {α : Type} (A : (⟨2, ![256, 2048]⟩ : Shape).Idx → α) (c : Dev nD) (k : Fin 128) (e : Fin 2048) :
    (Layout.blockN ⟨2, ![128, 2048]⟩ ⟨2, ![256, 2048]⟩ (Layout.meshBlock [2, 2, 2] ![[0], []] c) A) (ix2 k e) = A (ix2 (half c k) e) :=
  congrArg A (funext (Fin.forall_fin_two.mpr
    ⟨Fin.ext (by show Layout.meshLin [2, 2, 2] c.val [0] * 128 + k.val = c.val / 4 * 128 + k.val; rw [which]), Fin.ext (by show 0 * 2048 + e.val = e.val; omega)⟩))

/-- A sum over all compressed columns is the device's half plus its partner's. -/
theorem halves (c : Dev nD) (f : Fin 256 → EReal) : ∑ k, f k = ∑ k, f (half c k) + ∑ k, f (half (mate c) k) := by
  have h : (∀ k, half c k = ⟨k.val, by omega⟩) ∧ (∀ k, half (mate c) k = ⟨128 + k.val, by omega⟩)
      ∨ (∀ k, half c k = ⟨128 + k.val, by omega⟩) ∧ (∀ k, half (mate c) k = ⟨k.val, by omega⟩) := by
    have hd : c.val / 4 = 0 ∧ (mate c).val / 4 = 1 ∨ c.val / 4 = 1 ∧ (mate c).val / 4 = 0 := by revert c; decide
    rcases hd with ⟨h, h'⟩ | ⟨h, h'⟩
    · exact .inl ⟨fun k => Fin.ext (by show c.val / 4 * 128 + k.val = k.val; omega), fun k => Fin.ext (by show (mate c).val / 4 * 128 + k.val = 128 + k.val; omega)⟩
    · exact .inr ⟨fun k => Fin.ext (by show c.val / 4 * 128 + k.val = 128 + k.val; omega), fun k => Fin.ext (by show (mate c).val / 4 * 128 + k.val = k.val; omega)⟩
  rw [Fin.sum_univ_two_halves 128 128 rfl f]
  rcases h with ⟨h, h'⟩ | ⟨h, h'⟩
  · simp only [h, h']
  · simp only [h, h']; exact add_comm _ _

/-! ## The devices' arguments as blocks of whole arrays -/

variable (m : (ℓ : Loc nD τ sig) → Buf (Elt Ideal) ℓ)
variable (x : FVec Ideal S2x512x2048 .f32) (wd : FVec Ideal ⟨2, ![2048, 256]⟩ .f32) (wk wv : FVec Ideal ⟨2, ![256, 2048]⟩ .f32)
  (wq : FVec Ideal S2048x2048 .f32) (wr : FVec Ideal S2048x512 .f32) (wkr : FVec Ideal S2048x32 .f32) (wo : FVec Ideal S2048x2048 .f32)

/-- Every device holds its half of the three split weights and all of everything else. -/
structure Laid : Prop where
  x : ∀ c : Dev nD, m ((c : Thread nD τ).loc main_arg0) = x
  d : ∀ c : Dev nD, m ((c : Thread nD τ).loc main_arg1) = Layout.blockN ⟨2, ![2048, 128]⟩ ⟨2, ![2048, 256]⟩ (Layout.meshBlock [2, 2, 2] ![[], [0]] c) wd
  k : ∀ c : Dev nD, m ((c : Thread nD τ).loc main_arg2) = Layout.blockN ⟨2, ![128, 2048]⟩ ⟨2, ![256, 2048]⟩ (Layout.meshBlock [2, 2, 2] ![[0], []] c) wk
  v : ∀ c : Dev nD, m ((c : Thread nD τ).loc main_arg3) = Layout.blockN ⟨2, ![128, 2048]⟩ ⟨2, ![256, 2048]⟩ (Layout.meshBlock [2, 2, 2] ![[0], []] c) wv
  q : ∀ c : Dev nD, m ((c : Thread nD τ).loc main_arg4) = wq
  r : ∀ c : Dev nD, m ((c : Thread nD τ).loc main_arg5) = wr
  kr : ∀ c : Dev nD, m ((c : Thread nD τ).loc main_arg6) = wkr
  o : ∀ c : Dev nD, m ((c : Thread nD τ).loc main_arg7) = wo

variable {m x wd wk wv wq wr wkr wo} (H : Laid m x wd wk wv wq wr wkr wo)
include H

/-- One device's compressed columns are its half of all of them. -/
theorem compressed_laid (c : Dev nD) (b : Fin 2) (s : Fin 512) (k : Fin 128) :
    cAt m c (ix2 (row b s) k) = ∑ e : Fin 2048, x (ix3 b s e) * wd (ix2 e (half c k)) := by
  refine (compressed_at (argX m c) (argD m c) b s k).trans ?_
  rw [show argX m c = x from H.x c, show argD m c = _ from H.d c]
  exact Finset.sum_congr rfl fun e _ => congrArg (_ * ·) (across_at wd c e k)

/-- The keys the exchange leaves. -/
theorem keys (c : Dev nD) (b : Fin 2) (s : Fin 512) (n : Fin 2048) : kAt m c (ix2 (row b s) n) = up x wd wk (ix3 b s n) := by
  refine (kv_at (cAt m c) (argK m c) (cAt m (mate c)) (argK m (mate c)) (row b s) n).trans ?_
  rw [up_at, halves c, show argK m c = _ from H.k c, show argK m (mate c) = _ from H.k (mate c)]
  exact congrArg₂ (· + ·) (Finset.sum_congr rfl fun k _ => congrArg₂ (· * ·) (compressed_laid H c b s k) (down_at wk c k n))
    (Finset.sum_congr rfl fun k _ => congrArg₂ (· * ·) (compressed_laid H (mate c) b s k) (down_at wk (mate c) k n))

/-- The values it leaves. -/
theorem values (c : Dev nD) (b : Fin 2) (s : Fin 512) (n : Fin 2048) : vAt m c (ix2 (row b s) n) = up x wd wv (ix3 b s n) := by
  refine (kv_at (cAt m c) (argV m c) (cAt m (mate c)) (argV m (mate c)) (row b s) n).trans ?_
  rw [up_at, halves c, show argV m c = _ from H.v c, show argV m (mate c) = _ from H.v (mate c)]
  exact congrArg₂ (· + ·) (Finset.sum_congr rfl fun k _ => congrArg₂ (· * ·) (compressed_laid H c b s k) (down_at wv c k n))
    (Finset.sum_congr rfl fun k _ => congrArg₂ (· * ·) (compressed_laid H (mate c) b s k) (down_at wv (mate c) k n))

/-- The rotary keys it leaves. -/
theorem rotary (c : Dev nD) (b : Fin 2) (s : Fin 512) (k : Fin 32) : rAt m c (ix2 (row b s) k) = ∑ e : Fin 2048, x (ix3 b s e) * wkr (ix2 e k) := by
  refine (rotary_at m c b s k).trans ?_
  rw [show argX m c = x from H.x c, show argR m c = wkr from H.kr c]

omit H

/-! ## What the stages leave -/

variable (m)

/-- The exchange leaves the keys. -/
theorem w1_k (c : Dev nD) : W1 m c main_v1_0 = kAt m c :=
  (afterRegion_arr (dat0 m c) (V0 m c) launch0.win.arr_inj 5).trans ((dat0 m c).arrAt_eq_of_after_last 5 t0_0 (by decide +kernel) _ fun j => by blk_simp; rfl)

/-- It leaves the values. -/
theorem w1_v (c : Dev nD) : W1 m c main_v1_1 = vAt m c :=
  (afterRegion_arr (dat0 m c) (V0 m c) launch0.win.arr_inj 6).trans ((dat0 m c).arrAt_eq_of_after_last 6 t0_0 (by decide +kernel) _ fun j => by blk_simp; rfl)

/-- It leaves the rotary keys. -/
theorem w1_r (c : Dev nD) : W1 m c main_v1_2 = rAt m c :=
  (afterRegion_arr (dat0 m c) (V0 m c) launch0.win.arr_inj 7).trans ((dat0 m c).arrAt_eq_of_after_last 7 t0_0 (by decide +kernel) _ fun j => by blk_simp; rfl)

/-- What the exchange does not write is there after the rearrangement too. -/
theorem w2_kept (c : Dev nD) (r : Ref sig .tc) (h0 : ∀ w, arrRef spec0 w = r → (cfg0.win w).isOut = false) (h1 : r ∉ hostOps1_W) :
    W2 m c r = m ((c : Thread nD τ).loc r) :=
  (StableHlo.after_of_writes_sub hostOps1 _ hostOps1_writes h1).trans (afterRegion_keeps (dat0 m c) (V0 m c) launch0.win.arr_inj (fun _ => rfl) r h0)

/-- What attention does not write is there after it too. -/
theorem w3_kept (c : Dev nD) (r : Ref sig .tc) (h2 : ∀ w, arrRef spec1 w = r → (cfg1.win w).isOut = false) : W3 m c r = W2 m c r :=
  afterRegion_keeps (dat1 (W2 m) c) (W2 m c) launch1.win.arr_inj (fun _ => rfl) r h2

/-- The rotary weights, a head at a time. -/
theorem w2_r (c : Dev nD) (h : Fin 16) (e : Fin 2048) (d : Fin 32) : W2 m c main_v3 (ix3 h e d) = m ((c : Thread nD τ).loc main_arg5) (ix2 e (rcol h d)) := by
  have k : W1 m c main_arg5 = m ((c : Thread nD τ).loc main_arg5) := afterRegion_keeps (dat0 m c) (V0 m c) launch0.win.arr_inj (fun _ => rfl) main_arg5 (by decide)
  rw [← k]
  have t : W2 m c main_v3 = transpose S16x2048x32 [1, 0, 2] (shapeCast S2048x16x32 (W1 m c main_arg5) shapeCasts_S2048x512_S2048x16x32) transposes_S2048x16x32_S16x2048x32_1_0_2 := by
    unfold W2
    after_results_simp
    rfl
  rw [t]
  generalize W1 m c main_arg5 = w
  pointwise []

/-! ## The blocks the later kernels read -/

/-- Which blocks attention's windows are at. -/
theorem idx1 : ∀ t : Fin cfg1.N, win1_0.index t = ![t.val / 16, 0, 0] ∧ win1_1.index t = ![0, t.val % 16] ∧ win1_2.index t = ![t.val % 16, 0, 0]
    ∧ win1_3.index t = ![t.val / 16, t.val % 16] ∧ win1_4.index t = ![t.val / 16, t.val % 16] ∧ win1_5.index t = ![t.val / 16, 0]
    ∧ win1_6.index t = ![t.val / 16, t.val % 16] := (by decide +kernel : ∀ t : Fin grid1.N, _)
/-- Which blocks the projection's windows are at. -/
theorem idx2 : ∀ t : Fin cfg2.N, win2_0.index t = ![t.val / 4, 0] ∧ win2_1.index t = ![0, t.val % 4] ∧ win2_2.index t = ![t.val / 4, t.val % 4] :=
  (by decide +kernel : ∀ t : Fin grid2.N, _)

/-- The batch entry of a grid point of attention. -/
abbrev bOf (t : Fin cfg1.N) : Fin 2 := ⟨t.val / 16, by have h : t.val < 32 := t.isLt; omega⟩
/-- Its head. -/
abbrev hOf (t : Fin cfg1.N) : Fin 16 := ⟨t.val % 16, by omega⟩
/-- The batch entry of a grid point of the projection. -/
abbrev iOf (t : Fin cfg2.N) : Fin 2 := ⟨t.val / 4, by have h : t.val < 8 := t.isLt; omega⟩
/-- Column `l` of its block of columns. -/
abbrev jOf (t : Fin cfg2.N) (l : Fin 512) : Fin 2048 := ⟨t.val % 4 * 512 + l.val, by omega⟩

section Blocks

variable (W : Dev nD → Valuation τ sig (Elt Ideal)) (c : Dev nD)

/-- Attention's block of the activations is its batch entry. -/
theorem in1_0 (t : Fin cfg1.N) (u : Fin 1) (s : Fin 512) (e : Fin 2048) : in1 W c 0 t (ix3 u s e) = W c main_arg0 (ix3 (bOf t) s e) :=
  congrArg (W c main_arg0) (by blk_ext [idx1 t])
/-- Its block of the query weights is its head's columns. -/
theorem in1_1 (t : Fin cfg1.N) (e : Fin 2048) (d : Fin 128) : in1 W c 1 t (ix2 e d) = W c main_arg4 (ix2 e (col (hOf t) d)) :=
  congrArg (W c main_arg4) (by blk_ext [idx1 t])
/-- Its block of the rotary query weights is its head's. -/
theorem in1_2 (t : Fin cfg1.N) (u : Fin 1) (e : Fin 2048) (d : Fin 32) : in1 W c 2 t (ix3 u e d) = W c main_v3 (ix3 (hOf t) e d) :=
  congrArg (W c main_v3) (by blk_ext [idx1 t])
/-- Its block of the keys: its batch entry's rows, its head's columns. -/
theorem in1_3 (t : Fin cfg1.N) (s : Fin 512) (d : Fin 128) : in1 W c 3 t (ix2 s d) = W c main_v1_0 (ix2 (row (bOf t) s) (col (hOf t) d)) :=
  congrArg (W c main_v1_0) (by blk_ext [idx1 t])
/-- Its block of the values, likewise. -/
theorem in1_4 (t : Fin cfg1.N) (s : Fin 512) (d : Fin 128) : in1 W c 4 t (ix2 s d) = W c main_v1_1 (ix2 (row (bOf t) s) (col (hOf t) d)) :=
  congrArg (W c main_v1_1) (by blk_ext [idx1 t])
/-- Its block of the rotary keys: its batch entry's rows. -/
theorem in1_5 (t : Fin cfg1.N) (s : Fin 512) (d : Fin 32) : in1 W c 5 t (ix2 s d) = W c main_v1_2 (ix2 (row (bOf t) s) d) :=
  congrArg (W c main_v1_2) (by blk_ext [idx1 t])
/-- The projection's block of the attention output is its rows. -/
theorem in2_0 (t : Fin cfg2.N) (s : Fin 512) (e : Fin 2048) : in2 W c 0 t (ix2 s e) = W c main_v4 (ix2 (row (iOf t) s) e) :=
  congrArg (W c main_v4) (by blk_ext [idx2 t])
/-- Its block of the weights is its columns. -/
theorem in2_1 (t : Fin cfg2.N) (e : Fin 2048) (l : Fin 512) : in2 W c 1 t (ix2 e l) = W c main_arg7 (ix2 e (jOf t l)) :=
  congrArg (W c main_arg7) (by blk_ext [idx2 t])

end Blocks

/-! ## Attention, the projection, the result -/

/-- An array of all rows from its batch entries. -/
def sheet (f : Fin 2 → Fin 512 → Fin 2048 → EReal) : Vec Ideal S1024x2048 .f32 := fun y =>
  f ⟨(y 0).val / 512, by have h : (y 0).val < 1024 := (y 0).isLt; omega⟩ ⟨(y 0).val % 512, Nat.mod_lt _ (by omega)⟩ (y 1)

/-- Such an array at an entry. -/
theorem sheet_at (f : Fin 2 → Fin 512 → Fin 2048 → EReal) (b : Fin 2) (s : Fin 512) (n : Fin 2048) : sheet f (ix2 (row b s) n) = f b s n :=
  congrArg₂ (fun b' s' => f b' s' n) (Fin.ext (by show (b.val * 512 + s.val) / 512 = b.val; omega)) (Fin.ext (by show (b.val * 512 + s.val) % 512 = s.val; omega))

variable {m}
include H

/-- One block of attention is the reference's. -/
theorem attn_laid (c : Dev nD) (t : Fin cfg1.N) (s : Fin 512) (d : Fin 128) :
    attnOut (W2 m) c t (ix2 s d) = mixed (scores x wq wr wkr (up x wd wk)) (up x wd wv) (ix3 (bOf t) s (col (hOf t) d)) := by
  have hx : (fun e => in1 (W2 m) c 0 t (ix3 0 s e)) = fun e => x (ix3 (bOf t) s e) := funext fun e =>
    (in1_0 (W2 m) c t 0 s e).trans (congrFun ((w2_kept m c main_arg0 (by decide) (by decide)).trans (H.x c)) _)
  have hq : (fun e d => in1 (W2 m) c 1 t (ix2 e d)) = fun e d => wq (ix2 e (col (hOf t) d)) := funext fun e => funext fun d =>
    (in1_1 (W2 m) c t e d).trans (congrFun ((w2_kept m c main_arg4 (by decide) (by decide)).trans (H.q c)) _)
  have hr : (fun e d => in1 (W2 m) c 2 t (ix3 0 e d)) = fun e d => wr (ix2 e (rcol (hOf t) d)) := funext fun e => funext fun d =>
    (in1_2 (W2 m) c t 0 e d).trans ((w2_r m c (hOf t) e d).trans (congrFun (H.r c) _))
  have hk : (fun u d => in1 (W2 m) c 3 t (ix2 u d)) = fun u d => up x wd wk (ix3 (bOf t) u (col (hOf t) d)) := funext fun u => funext fun d =>
    (in1_3 (W2 m) c t u d).trans ((congrFun ((StableHlo.after_of_writes_sub hostOps1 _ hostOps1_writes (by decide)).trans (w1_k m c)) _).trans (keys H c (bOf t) u (col (hOf t) d)))
  have hv : (fun u => in1 (W2 m) c 4 t (ix2 u d)) = fun u => up x wd wv (ix3 (bOf t) u (col (hOf t) d)) := funext fun u =>
    (in1_4 (W2 m) c t u d).trans ((congrFun ((StableHlo.after_of_writes_sub hostOps1 _ hostOps1_writes (by decide)).trans (w1_v m c)) _).trans (values H c (bOf t) u (col (hOf t) d)))
  have ho : (fun u d => in1 (W2 m) c 5 t (ix2 u d)) = fun u d => ∑ e : Fin 2048, x (ix3 (bOf t) u e) * wkr (ix2 e d) := funext fun u => funext fun d =>
    (in1_5 (W2 m) c t u d).trans ((congrFun ((StableHlo.after_of_writes_sub hostOps1 _ hostOps1_writes (by decide)).trans (w1_r m c)) _).trans (rotary H c (bOf t) u d))
  unfold attnOut
  refine (attention_at _ _ _ _ _ _ s d).trans ?_
  rw [mixed_at, hx, hq, hr, hk, hv, ho]
  exact congrArg (mix · _) (funext fun u => (scores_at x wq wr wkr (up x wd wk) (bOf t) (hOf t) s u).symm)

/-- All of attention. -/
theorem w3_laid (c : Dev nD) :
    W3 m c main_v4 = sheet fun b s n => mixed (scores x wq wr wkr (up x wd wk)) (up x wd wv) (ix3 b s n) :=
  (afterRegion_arr (dat1 (W2 m) c) (W2 m c) launch1.win.arr_inj 6).trans
    ((dat1 (W2 m) c).arrAt_eq_of_covers 6 (sheet fun b s n => mixed (scores x wq wr wkr (up x wd wk)) (up x wd wv) (ix3 b s n)) (by decide +kernel) fun t hf y => by
      blk_simp
      idx_vars y
      refine (attn_laid H c t y0 y1).trans ((sheet_at (fun b s n => mixed (scores x wq wr wkr (up x wd wk)) (up x wd wv) (ix3 b s n)) (bOf t) y0 (col (hOf t) y1)).symm.trans ?_)
      exact congrArg (sheet _) (by blk_ext [idx1 t]))

/-- One block of the projection is the reference's. -/
theorem proj_laid (c : Dev nD) (t : Fin cfg2.N) (s l : Fin 512) : projOut (W3 m) c t (ix2 s l) = out x wd wk wv wq wr wkr wo (ix3 (iOf t) s (jOf t l)) := by
  unfold projOut
  refine (projection_at _ _ s l).trans ?_
  rw [out_at]
  exact Finset.sum_congr rfl fun e _ => congrArg₂ (· * ·)
    ((in2_0 (W3 m) c t s e).trans ((congrFun (w3_laid H c) _).trans (sheet_at _ (iOf t) s e)))
    ((in2_1 (W3 m) c t e l).trans (congrFun ((w3_kept m c main_arg7 (by decide)).trans ((w2_kept m c main_arg7 (by decide) (by decide)).trans (H.o c))) _))

/-- All of the projection. -/
theorem w4_laid (c : Dev nD) : W4 m c main_v5 = sheet fun b s n => out x wd wk wv wq wr wkr wo (ix3 b s n) :=
  (afterRegion_arr (dat2 (W3 m) c) (W3 m c) launch2.win.arr_inj 2).trans
    ((dat2 (W3 m) c).arrAt_eq_of_covers 2 (sheet fun b s n => out x wd wk wv wq wr wkr wo (ix3 b s n)) (by decide +kernel) fun t hf y => by
      blk_simp
      idx_vars y
      refine (proj_laid H c t y0 y1).trans ((sheet_at (fun b s n => out x wd wk wv wq wr wkr wo (ix3 b s n)) (iOf t) y0 (jOf t y1)).symm.trans ?_)
      exact congrArg (sheet _) (by blk_ext [idx2 t]))

/-- The kernel's result is the reference's. -/
theorem w5_laid (c : Dev nD) : W5 m c main_v6 = out x wd wk wv wq wr wkr wo := by
  have k : W5 m c main_v6 = shapeCast S2x512x2048 (W4 m c main_v5) shapeCasts_S1024x2048_S2x512x2048 := by
    unfold W5
    after_results_simp
    rfl
  rw [k, w4_laid H c]
  funext y
  idx_vars y
  refine Eq.trans ?_ (sheet_at (fun b s n => out x wd wk wv wq wr wkr wo (ix3 b s n)) y0 y1 y2)
  generalize (sheet fun b s n => out x wd wk wv wq wr wkr wo (ix3 b s n)) = w
  pointwise []

end Cert.KernelIdeal.Pair

end
-- ==== Proof.lean ====
/-
  The certificate: the three frames, that the ideal program is the kernel, and that kernel and reference compute one function.
-/
module

public import proofs.«01_k».proof.Defs
public import proofs.«01_k».proof.Proof.Frames
public import proofs.«01_k».proof.Proof.Value
public import proofs.«01_k».proof.Proof.Gen.Kernel
public import proofs.«01_k».proof.Proof.Gen.KernelIdeal
public import proofs.«01_k».proof.Proof.Gen.ReferenceIdeal
public import proofs.«01_k».proof.Proof.Gen.ReferenceIdeal.Run

@[expose] public section

noncomputable section

namespace Cert.Proof

open Idealize.ShloMosaic Idealize.SL.Sem

/-- Every device ends with the whole of the reference's result. -/
theorem same_function :
    Cert.algebraic_KernelIdeal_ReferenceIdeal (hKernelIdeal := Cert.KernelIdeal.Gen.facts) (hReferenceIdeal := Cert.ReferenceIdeal.Gen.facts) := by
  intro m g m' g' _ h
  have laid := Cert.KernelIdeal.Pair.Laid.mk (m := m) (fun c => (h c).1) (fun c => (h c).2.1) (fun c => (h c).2.2.1) (fun c => (h c).2.2.2.1)
    (fun c => (h c).2.2.2.2.1) (fun c => (h c).2.2.2.2.2.1) (fun c => (h c).2.2.2.2.2.2.1) (fun c => (h c).2.2.2.2.2.2.2)
  refine ⟨Cert.ReferenceIdeal.Value.res_main_v29 m' 0, ?_, ?_⟩
  · refine (θ_run Cert.KernelIdeal.defs _ _).mono (fun r k c => ⟨?_, (k.1 c).2⟩) (Cert.KernelIdeal.Pair.run_main (F := Ideal) m g)
    exact (k.1 c).1.trans ((Cert.KernelIdeal.Pair.w5_laid laid c).trans (Cert.ReferenceIdeal.Whole.result m' 0).symm)
  · exact (θ_run Cert.ReferenceIdeal.defs _ _).mono (fun r k => k 0) (Cert.ReferenceIdeal.Value.run m' g')

/-- All five claims. -/
theorem claim : Cert.Claim :=
  ⟨Cert.Kernel.Gen.facts, Cert.KernelIdeal.Gen.facts, Cert.ReferenceIdeal.Gen.facts, frame_kernel, frame_ideal, frame_reference, trivial, same_function⟩

end Cert.Proof

end
